-- ==== Defs.lean ====
def Pre_Kernel [hPre_in_table : Cert.Pre_in_table.Facts] (m : (ℓ : Loc Cert.Kernel.nD Cert.Kernel.τ Cert.Kernel.sig) → Buf (Elt Bits) ℓ) : Prop :=
  ∀ c : Dev Cert.Kernel.nD,
    (Cert.Pre_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_table : Cert.Pre_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_table [hPre_in_table : Cert.Pre_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_table : Cert.Pre_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_table [hReferenceIdeal : Cert.ReferenceIdeal.Facts] [hPre_in_table : Cert.Pre_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_table : Cert.Pre_in_table.Facts),
    quiescent_Kernel (hKernel := hKernel) (hPre_in_table := hPre_in_table)
    ∧ quiescent_KernelIdeal (hKernelIdeal := hKernelIdeal) (hPre_in_table := hPre_in_table)
    ∧ quiescent_ReferenceIdeal (hReferenceIdeal := hReferenceIdeal)
    ∧ quiescent_ReferenceIdeal_pre_in_table (hReferenceIdeal := hReferenceIdeal) (hPre_in_table := hPre_in_table)
    ∧ preserves_Kernel_KernelIdeal
    ∧ algebraic_KernelIdeal_ReferenceIdeal (hKernelIdeal := hKernelIdeal) (hReferenceIdeal := hReferenceIdeal) (hPre_in_table := hPre_in_table)
-- ==== Pre_in_table.lean ====
abbrev S4096 : Shape := ⟨1, ![4096]⟩
abbrev S100000x4 : Shape := ⟨2, ![100000, 4]⟩
abbrev S100000x3 : Shape := ⟨2, ![100000, 3]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : IVec S4096 32) (main_arg1 : FVec F S100000x4 .f32) (main_arg2 : FVec F S100000x3 .f32) : IVec S_ 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 100000#32
  let main_v2 : IVec S4096 32 := broadcastInDim S4096 ![] bcast_S_S4096 main_c_0
  let main_v3 : IVec S4096 1 := cmpi .slt main_arg0 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Kernel.lean ====
abbrev S4096 : Shape := ⟨1, ![4096]⟩
abbrev S100000x4 : Shape := ⟨2, ![100000, 4]⟩
abbrev S100000x3 : Shape := ⟨2, ![100000, 3]⟩
abbrev S400000 : Shape := ⟨1, ![400000]⟩
abbrev S300000 : Shape := ⟨1, ![300000]⟩
abbrev S16384 : Shape := ⟨1, ![16384]⟩
abbrev S12288 : Shape := ⟨1, ![12288]⟩
abbrev S128 : Shape := ⟨1, ![128]⟩
abbrev S512 : Shape := ⟨1, ![512]⟩
abbrev S384 : Shape := ⟨1, ![384]⟩
abbrev S_ : Shape := ⟨0, ![]⟩
abbrev S16 : Shape := ⟨1, ![16]⟩
abbrev S4096x4 : Shape := ⟨2, ![4096, 4]⟩
abbrev S4096x3 : Shape := ⟨2, ![4096, 3]⟩

abbrev nBuf : Table → Nat
  | .hbm => 9
  | .local .scVector .vmem => 5
  | _ => 0

abbrev bufTy : (tb : Table) → Fin (nBuf tb) → BufTy
  | .hbm, ⟨0, _⟩ => ⟨S4096, .i32⟩
  | .hbm, ⟨1, _⟩ => ⟨S100000x4, .f32⟩
  | .hbm, ⟨2, _⟩ => ⟨S100000x3, .f32⟩
  | .hbm, ⟨3, _⟩ => ⟨S400000, .f32⟩
  | .hbm, ⟨4, _⟩ => ⟨S300000, .f32⟩
  | .hbm, ⟨5, _⟩ => ⟨S16384, .f32⟩
  | .hbm, ⟨6, _⟩ => ⟨S12288, .f32⟩
  | .hbm, ⟨7, _⟩ => ⟨S4096x4, .f32⟩
  | .hbm, ⟨8, _⟩ => ⟨S4096x3, .f32⟩
  | .local .scVector .vmem, ⟨0, _⟩ => ⟨S128, .i32⟩
  | .local .scVector .vmem, ⟨1, _⟩ => ⟨S512, .i32⟩
  | .local .scVector .vmem, ⟨2, _⟩ => ⟨S384, .i32⟩
  | .local .scVector .vmem, ⟨3, _⟩ => ⟨S512, .f32⟩
  | .local .scVector .vmem, ⟨4, _⟩ => ⟨S384, .f32⟩
  | _, _ => ⟨S4096, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_arg0_scv : Ref sig .scVector := ⟨.hbm, 0, rfl⟩
abbrev main_v0_scv : Ref sig .scVector := ⟨.hbm, 3, rfl⟩
abbrev main_v1_scv : Ref sig .scVector := ⟨.hbm, 4, rfl⟩
abbrev main_v2_0_scv : Ref sig .scVector := ⟨.hbm, 5, rfl⟩
abbrev main_v2_1_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]

def k0_chk1 (v7 : IVec S16 32) : Prop :=
  (∀ a x, ((![v7] : Fin 1 → IVec S16 32) a x).toNat < S128.size a)
theorem k0_idx1_inb : ∀ (v7 : IVec S16 32) (k0_hw1 : k0_chk1 v7), ∀ a x, ((![v7] : Fin 1 → IVec S16 32) a x).toNat < S128.size a := fun v7 k0_hw1 => k0_hw1

def k0_chk2 (v18 : IVec S16 32) : Prop :=
  (∀ a x, ((![v18] : Fin 1 → IVec S16 32) a x).toNat < S128.size a)
theorem k0_idx2_inb : ∀ (v18 : IVec S16 32) (k0_hw2 : k0_chk2 v18), ∀ a x, ((![v18] : Fin 1 → IVec S16 32) a x).toNat < S128.size a := fun v18 k0_hw2 => k0_hw2

def k0_chk3 (v29 : IVec S16 32) : Prop :=
  (∀ a x, ((![v29] : Fin 1 → IVec S16 32) a x).toNat < S128.size a)
theorem k0_idx3_inb : ∀ (v29 : IVec S16 32) (k0_hw3 : k0_chk3 v29), ∀ a x, ((![v29] : Fin 1 → IVec S16 32) a x).toNat < S128.size a := fun v29 k0_hw3 => k0_hw3

def k0_chk4 (v40 : IVec S16 32) : Prop :=
  (∀ a x, ((![v40] : Fin 1 → IVec S16 32) a x).toNat < S128.size a)
theorem k0_idx4_inb : ∀ (v40 : IVec S16 32) (k0_hw4 : k0_chk4 v40), ∀ a x, ((![v40] : Fin 1 → IVec S16 32) a x).toNat < S128.size a := fun v40 k0_hw4 => k0_hw4

def k0_chk5 (v51 : IVec S16 32) : Prop :=
  (∀ a x, ((![v51] : Fin 1 → IVec S16 32) a x).toNat < S128.size a)
theorem k0_idx5_inb : ∀ (v51 : IVec S16 32) (k0_hw5 : k0_chk5 v51), ∀ a x, ((![v51] : Fin 1 → IVec S16 32) a x).toNat < S128.size a := fun v51 k0_hw5 => k0_hw5

def k0_chk6 (v62 : IVec S16 32) : Prop :=
  (∀ a x, ((![v62] : Fin 1 → IVec S16 32) a x).toNat < S128.size a)
theorem k0_idx6_inb : ∀ (v62 : IVec S16 32) (k0_hw6 : k0_chk6 v62), ∀ a x, ((![v62] : Fin 1 → IVec S16 32) a x).toNat < S128.size a := fun v62 k0_hw6 => k0_hw6

def k0_chk7 (v73 : IVec S16 32) : Prop :=
  (∀ a x, ((![v73] : Fin 1 → IVec S16 32) a x).toNat < S128.size a)
theorem k0_idx7_inb : ∀ (v73 : IVec S16 32) (k0_hw7 : k0_chk7 v73), ∀ a x, ((![v73] : Fin 1 → IVec S16 32) a x).toNat < S128.size a := fun v73 k0_hw7 => k0_hw7

def k0_chk8 (v84 : IVec S16 32) : Prop :=
  (∀ a x, ((![v84] : Fin 1 → IVec S16 32) a x).toNat < S128.size a)
theorem k0_idx8_inb : ∀ (v84 : IVec S16 32) (k0_hw8 : k0_chk8 v84), ∀ a x, ((![v84] : Fin 1 → IVec S16 32) a x).toNat < S128.size a := fun v84 k0_hw8 => k0_hw8

def k0_chk9 (v95 : IVec S16 32) : Prop :=
  (∀ a x, ((![v95] : Fin 1 → IVec S16 32) a x).toNat < S128.size a)
theorem k0_idx9_inb : ∀ (v95 : IVec S16 32) (k0_hw9 : k0_chk9 v95), ∀ a x, ((![v95] : Fin 1 → IVec S16 32) a x).toNat < S128.size a := fun v95 k0_hw9 => k0_hw9

def k0_chk10 (v106 : IVec S16 32) : Prop :=
  (∀ a x, ((![v106] : Fin 1 → IVec S16 32) a x).toNat < S128.size a)
theorem k0_idx10_inb : ∀ (v106 : IVec S16 32) (k0_hw10 : k0_chk10 v106), ∀ a x, ((![v106] : Fin 1 → IVec S16 32) a x).toNat < S128.size a := fun v106 k0_hw10 => k0_hw10

def k0_chk11 (v117 : IVec S16 32) : Prop :=
  (∀ a x, ((![v117] : Fin 1 → IVec S16 32) a x).toNat < S128.size a)
theorem k0_idx11_inb : ∀ (v117 : IVec S16 32) (k0_hw11 : k0_chk11 v117), ∀ a x, ((![v117] : Fin 1 → IVec S16 32) a x).toNat < S128.size a := fun v117 k0_hw11 => k0_hw11

def k0_chk12 (v128 : IVec S16 32) : Prop :=
  (∀ a x, ((![v128] : Fin 1 → IVec S16 32) a x).toNat < S128.size a)
theorem k0_idx12_inb : ∀ (v128 : IVec S16 32) (k0_hw12 : k0_chk12 v128), ∀ a x, ((![v128] : Fin 1 → IVec S16 32) a x).toNat < S128.size a := fun v128 k0_hw12 => k0_hw12

def k0_chk13 (v139 : IVec S16 32) : Prop :=
  (∀ a x, ((![v139] : Fin 1 → IVec S16 32) a x).toNat < S128.size a)
theorem k0_idx13_inb : ∀ (v139 : IVec S16 32) (k0_hw13 : k0_chk13 v139), ∀ a x, ((![v139] : Fin 1 → IVec S16 32) a x).toNat < S128.size a := fun v139 k0_hw13 => k0_hw13

def k0_chk14 (v150 : IVec S16 32) : Prop :=
  (∀ a x, ((![v150] : Fin 1 → IVec S16 32) a x).toNat < S128.size a)
theorem k0_idx14_inb : ∀ (v150 : IVec S16 32) (k0_hw14 : k0_chk14 v150), ∀ a x, ((![v150] : Fin 1 → IVec S16 32) a x).toNat < S128.size a := fun v150 k0_hw14 => k0_hw14

def k0_chk15 (v161 : IVec S16 32) : Prop :=
  (∀ a x, ((![v161] : Fin 1 → IVec S16 32) a x).toNat < S128.size a)
theorem k0_idx15_inb : ∀ (v161 : IVec S16 32) (k0_hw15 : k0_chk15 v161), ∀ a x, ((![v161] : Fin 1 → IVec S16 32) a x).toNat < S128.size a := fun v161 k0_hw15 => k0_hw15

def k0_chk16 (v172 : IVec S16 32) : Prop :=
  (∀ a x, ((![v172] : Fin 1 → IVec S16 32) a x).toNat < S128.size a)
theorem k0_idx16_inb : ∀ (v172 : IVec S16 32) (k0_hw16 : k0_chk16 v172), ∀ a x, ((![v172] : Fin 1 → IVec S16 32) a x).toNat < S128.size a := fun v172 k0_hw16 => k0_hw16

def k0_chk17 (v183 : IVec S16 32) : Prop :=
  (∀ a x, ((![v183] : Fin 1 → IVec S16 32) a x).toNat < S128.size a)
theorem k0_idx17_inb : ∀ (v183 : IVec S16 32) (k0_hw17 : k0_chk17 v183), ∀ a x, ((![v183] : Fin 1 → IVec S16 32) a x).toNat < S128.size a := fun v183 k0_hw17 => k0_hw17

def k0_chk18 (v194 : IVec S16 32) : Prop :=
  (∀ a x, ((![v194] : Fin 1 → IVec S16 32) a x).toNat < S128.size a)
theorem k0_idx18_inb : ∀ (v194 : IVec S16 32) (k0_hw18 : k0_chk18 v194), ∀ a x, ((![v194] : Fin 1 → IVec S16 32) a x).toNat < S128.size a := fun v194 k0_hw18 => k0_hw18

def k0_chk19 (v205 : IVec S16 32) : Prop :=
  (∀ a x, ((![v205] : Fin 1 → IVec S16 32) a x).toNat < S128.size a)
theorem k0_idx19_inb : ∀ (v205 : IVec S16 32) (k0_hw19 : k0_chk19 v205), ∀ a x, ((![v205] : Fin 1 → IVec S16 32) a x).toNat < S128.size a := fun v205 k0_hw19 => k0_hw19

def k0_chk20 (v216 : IVec S16 32) : Prop :=
  (∀ a x, ((![v216] : Fin 1 → IVec S16 32) a x).toNat < S128.size a)
theorem k0_idx20_inb : ∀ (v216 : IVec S16 32) (k0_hw20 : k0_chk20 v216), ∀ a x, ((![v216] : Fin 1 → IVec S16 32) a x).toNat < S128.size a := fun v216 k0_hw20 => k0_hw20

def k0_chk21 (v227 : IVec S16 32) : Prop :=
  (∀ a x, ((![v227] : Fin 1 → IVec S16 32) a x).toNat < S128.size a)
theorem k0_idx21_inb : ∀ (v227 : IVec S16 32) (k0_hw21 : k0_chk21 v227), ∀ a x, ((![v227] : Fin 1 → IVec S16 32) a x).toNat < S128.size a := fun v227 k0_hw21 => k0_hw21

def k0_chk22 (v238 : IVec S16 32) : Prop :=
  (∀ a x, ((![v238] : Fin 1 → IVec S16 32) a x).toNat < S128.size a)
theorem k0_idx22_inb : ∀ (v238 : IVec S16 32) (k0_hw22 : k0_chk22 v238), ∀ a x, ((![v238] : Fin 1 → IVec S16 32) a x).toNat < S128.size a := fun v238 k0_hw22 => k0_hw22

def k0_chk23 (v249 : IVec S16 32) : Prop :=
  (∀ a x, ((![v249] : Fin 1 → IVec S16 32) a x).toNat < S128.size a)
theorem k0_idx23_inb : ∀ (v249 : IVec S16 32) (k0_hw23 : k0_chk23 v249), ∀ a x, ((![v249] : Fin 1 → IVec S16 32) a x).toNat < S128.size a := fun v249 k0_hw23 => k0_hw23

def k0_chk24 (v260 : IVec S16 32) : Prop :=
  (∀ a x, ((![v260] : Fin 1 → IVec S16 32) a x).toNat < S128.size a)
theorem k0_idx24_inb : ∀ (v260 : IVec S16 32) (k0_hw24 : k0_chk24 v260), ∀ a x, ((![v260] : Fin 1 → IVec S16 32) a x).toNat < S128.size a := fun v260 k0_hw24 => k0_hw24

def k0_chk25 (v271 : IVec S16 32) : Prop :=
  (∀ a x, ((![v271] : Fin 1 → IVec S16 32) a x).toNat < S128.size a)
theorem k0_idx25_inb : ∀ (v271 : IVec S16 32) (k0_hw25 : k0_chk25 v271), ∀ a x, ((![v271] : Fin 1 → IVec S16 32) a x).toNat < S128.size a := fun v271 k0_hw25 => k0_hw25

def k0_chk26 (v282 : IVec S16 32) : Prop :=
  (∀ a x, ((![v282] : Fin 1 → IVec S16 32) a x).toNat < S128.size a)
theorem k0_idx26_inb : ∀ (v282 : IVec S16 32) (k0_hw26 : k0_chk26 v282), ∀ a x, ((![v282] : Fin 1 → IVec S16 32) a x).toNat < S128.size a := fun v282 k0_hw26 => k0_hw26

def k0_chk27 (v293 : IVec S16 32) : Prop :=
  (∀ a x, ((![v293] : Fin 1 → IVec S16 32) a x).toNat < S128.size a)
theorem k0_idx27_inb : ∀ (v293 : IVec S16 32) (k0_hw27 : k0_chk27 v293), ∀ a x, ((![v293] : Fin 1 → IVec S16 32) a x).toNat < S128.size a := fun v293 k0_hw27 => k0_hw27

def k0_chk28 (v304 : IVec S16 32) : Prop :=
  (∀ a x, ((![v304] : Fin 1 → IVec S16 32) a x).toNat < S128.size a)
theorem k0_idx28_inb : ∀ (v304 : IVec S16 32) (k0_hw28 : k0_chk28 v304), ∀ a x, ((![v304] : Fin 1 → IVec S16 32) a x).toNat < S128.size a := fun v304 k0_hw28 => k0_hw28

def k0_chk29 (v315 : IVec S16 32) : Prop :=
  (∀ a x, ((![v315] : Fin 1 → IVec S16 32) a x).toNat < S128.size a)
theorem k0_idx29_inb : ∀ (v315 : IVec S16 32) (k0_hw29 : k0_chk29 v315), ∀ a x, ((![v315] : Fin 1 → IVec S16 32) a x).toNat < S128.size a := fun v315 k0_hw29 => k0_hw29

def k0_chk30 (v326 : IVec S16 32) : Prop :=
  (∀ a x, ((![v326] : Fin 1 → IVec S16 32) a x).toNat < S128.size a)
theorem k0_idx30_inb : ∀ (v326 : IVec S16 32) (k0_hw30 : k0_chk30 v326), ∀ a x, ((![v326] : Fin 1 → IVec S16 32) a x).toNat < S128.size a := fun v326 k0_hw30 => k0_hw30

def k0_chk31 (v337 : IVec S16 32) : Prop :=
  (∀ a x, ((![v337] : Fin 1 → IVec S16 32) a x).toNat < S128.size a)
theorem k0_idx31_inb : ∀ (v337 : IVec S16 32) (k0_hw31 : k0_chk31 v337), ∀ a x, ((![v337] : Fin 1 → IVec S16 32) a x).toNat < S128.size a := fun v337 k0_hw31 => k0_hw31

def k0_chk32 (v348 : IVec S16 32) : Prop :=
  (∀ a x, ((![v348] : Fin 1 → IVec S16 32) a x).toNat < S128.size a)
theorem k0_idx32_inb : ∀ (v348 : IVec S16 32) (k0_hw32 : k0_chk32 v348), ∀ a x, ((![v348] : Fin 1 → IVec S16 32) a x).toNat < S128.size a := fun v348 k0_hw32 => k0_hw32

def k0_chk33 (v361 : IVec S16 32) : Prop :=
  (∀ a x, ((![v361] : Fin 1 → IVec S16 32) a x).toNat < S128.size a)
theorem k0_idx33_inb : ∀ (v361 : IVec S16 32) (k0_hw33 : k0_chk33 v361), ∀ a x, ((![v361] : Fin 1 → IVec S16 32) a x).toNat < S128.size a := fun v361 k0_hw33 => k0_hw33

def k0_chk34 (v375 : IVec S16 32) : Prop :=
  (∀ a x, ((![v375] : Fin 1 → IVec S16 32) a x).toNat < S128.size a)
theorem k0_idx34_inb : ∀ (v375 : IVec S16 32) (k0_hw34 : k0_chk34 v375), ∀ a x, ((![v375] : Fin 1 → IVec S16 32) a x).toNat < S128.size a := fun v375 k0_hw34 => k0_hw34

def k0_chk35 (v389 : IVec S16 32) : Prop :=
  (∀ a x, ((![v389] : Fin 1 → IVec S16 32) a x).toNat < S128.size a)
theorem k0_idx35_inb : ∀ (v389 : IVec S16 32) (k0_hw35 : k0_chk35 v389), ∀ a x, ((![v389] : Fin 1 → IVec S16 32) a x).toNat < S128.size a := fun v389 k0_hw35 => k0_hw35

def k0_chk36 (v403 : IVec S16 32) : Prop :=
  (∀ a x, ((![v403] : Fin 1 → IVec S16 32) a x).toNat < S128.size a)
theorem k0_idx36_inb : ∀ (v403 : IVec S16 32) (k0_hw36 : k0_chk36 v403), ∀ a x, ((![v403] : Fin 1 → IVec S16 32) a x).toNat < S128.size a := fun v403 k0_hw36 => k0_hw36

def k0_chk37 (v417 : IVec S16 32) : Prop :=
  (∀ a x, ((![v417] : Fin 1 → IVec S16 32) a x).toNat < S128.size a)
theorem k0_idx37_inb : ∀ (v417 : IVec S16 32) (k0_hw37 : k0_chk37 v417), ∀ a x, ((![v417] : Fin 1 → IVec S16 32) a x).toNat < S128.size a := fun v417 k0_hw37 => k0_hw37

def k0_chk38 (v431 : IVec S16 32) : Prop :=
  (∀ a x, ((![v431] : Fin 1 → IVec S16 32) a x).toNat < S128.size a)
theorem k0_idx38_inb : ∀ (v431 : IVec S16 32) (k0_hw38 : k0_chk38 v431), ∀ a x, ((![v431] : Fin 1 → IVec S16 32) a x).toNat < S128.size a := fun v431 k0_hw38 => k0_hw38

def k0_chk39 (v445 : IVec S16 32) : Prop :=
  (∀ a x, ((![v445] : Fin 1 → IVec S16 32) a x).toNat < S128.size a)
theorem k0_idx39_inb : ∀ (v445 : IVec S16 32) (k0_hw39 : k0_chk39 v445), ∀ a x, ((![v445] : Fin 1 → IVec S16 32) a x).toNat < S128.size a := fun v445 k0_hw39 => k0_hw39

def k0_chk40 (v459 : IVec S16 32) : Prop :=
  (∀ a x, ((![v459] : Fin 1 → IVec S16 32) a x).toNat < S128.size a)
theorem k0_idx40_inb : ∀ (v459 : IVec S16 32) (k0_hw40 : k0_chk40 v459), ∀ a x, ((![v459] : Fin 1 → IVec S16 32) a x).toNat < S128.size a := fun v459 k0_hw40 => k0_hw40

def k0_chk41 (v473 : IVec S16 32) : Prop :=
  (∀ a x, ((![v473] : Fin 1 → IVec S16 32) a x).toNat < S128.size a)
theorem k0_idx41_inb : ∀ (v473 : IVec S16 32) (k0_hw41 : k0_chk41 v473), ∀ a x, ((![v473] : Fin 1 → IVec S16 32) a x).toNat < S128.size a := fun v473 k0_hw41 => k0_hw41

def k0_chk42 (v487 : IVec S16 32) : Prop :=
  (∀ a x, ((![v487] : Fin 1 → IVec S16 32) a x).toNat < S128.size a)
theorem k0_idx42_inb : ∀ (v487 : IVec S16 32) (k0_hw42 : k0_chk42 v487), ∀ a x, ((![v487] : Fin 1 → IVec S16 32) a x).toNat < S128.size a := fun v487 k0_hw42 => k0_hw42

def k0_chk43 (v501 : IVec S16 32) : Prop :=
  (∀ a x, ((![v501] : Fin 1 → IVec S16 32) a x).toNat < S128.size a)
theorem k0_idx43_inb : ∀ (v501 : IVec S16 32) (k0_hw43 : k0_chk43 v501), ∀ a x, ((![v501] : Fin 1 → IVec S16 32) a x).toNat < S128.size a := fun v501 k0_hw43 => k0_hw43

def k0_chk44 (v515 : IVec S16 32) : Prop :=
  (∀ a x, ((![v515] : Fin 1 → IVec S16 32) a x).toNat < S128.size a)
theorem k0_idx44_inb : ∀ (v515 : IVec S16 32) (k0_hw44 : k0_chk44 v515), ∀ a x, ((![v515] : Fin 1 → IVec S16 32) a x).toNat < S128.size a := fun v515 k0_hw44 => k0_hw44

def k0_chk45 (v529 : IVec S16 32) : Prop :=
  (∀ a x, ((![v529] : Fin 1 → IVec S16 32) a x).toNat < S128.size a)
theorem k0_idx45_inb : ∀ (v529 : IVec S16 32) (k0_hw45 : k0_chk45 v529), ∀ a x, ((![v529] : Fin 1 → IVec S16 32) a x).toNat < S128.size a := fun v529 k0_hw45 => k0_hw45

def k0_chk46 (v543 : IVec S16 32) : Prop :=
  (∀ a x, ((![v543] : Fin 1 → IVec S16 32) a x).toNat < S128.size a)
theorem k0_idx46_inb : ∀ (v543 : IVec S16 32) (k0_hw46 : k0_chk46 v543), ∀ a x, ((![v543] : Fin 1 → IVec S16 32) a x).toNat < S128.size a := fun v543 k0_hw46 => k0_hw46

def k0_chk47 (v557 : IVec S16 32) : Prop :=
  (∀ a x, ((![v557] : Fin 1 → IVec S16 32) a x).toNat < S128.size a)
theorem k0_idx47_inb : ∀ (v557 : IVec S16 32) (k0_hw47 : k0_chk47 v557), ∀ a x, ((![v557] : Fin 1 → IVec S16 32) a x).toNat < S128.size a := fun v557 k0_hw47 => k0_hw47

def k0_chk48 (v571 : IVec S16 32) : Prop :=
  (∀ a x, ((![v571] : Fin 1 → IVec S16 32) a x).toNat < S128.size a)
theorem k0_idx48_inb : ∀ (v571 : IVec S16 32) (k0_hw48 : k0_chk48 v571), ∀ a x, ((![v571] : Fin 1 → IVec S16 32) a x).toNat < S128.size a := fun v571 k0_hw48 => k0_hw48

def k0_chk49 (v585 : IVec S16 32) : Prop :=
  (∀ a x, ((![v585] : Fin 1 → IVec S16 32) a x).toNat < S128.size a)
theorem k0_idx49_inb : ∀ (v585 : IVec S16 32) (k0_hw49 : k0_chk49 v585), ∀ a x, ((![v585] : Fin 1 → IVec S16 32) a x).toNat < S128.size a := fun v585 k0_hw49 => k0_hw49

def k0_chk50 (v599 : IVec S16 32) : Prop :=
  (∀ a x, ((![v599] : Fin 1 → IVec S16 32) a x).toNat < S128.size a)
theorem k0_idx50_inb : ∀ (v599 : IVec S16 32) (k0_hw50 : k0_chk50 v599), ∀ a x, ((![v599] : Fin 1 → IVec S16 32) a x).toNat < S128.size a := fun v599 k0_hw50 => k0_hw50

def k0_chk51 (v613 : IVec S16 32) : Prop :=
  (∀ a x, ((![v613] : Fin 1 → IVec S16 32) a x).toNat < S128.size a)
theorem k0_idx51_inb : ∀ (v613 : IVec S16 32) (k0_hw51 : k0_chk51 v613), ∀ a x, ((![v613] : Fin 1 → IVec S16 32) a x).toNat < S128.size a := fun v613 k0_hw51 => k0_hw51

def k0_chk52 (v627 : IVec S16 32) : Prop :=
  (∀ a x, ((![v627] : Fin 1 → IVec S16 32) a x).toNat < S128.size a)
theorem k0_idx52_inb : ∀ (v627 : IVec S16 32) (k0_hw52 : k0_chk52 v627), ∀ a x, ((![v627] : Fin 1 → IVec S16 32) a x).toNat < S128.size a := fun v627 k0_hw52 => k0_hw52

def k0_chk53 (v641 : IVec S16 32) : Prop :=
  (∀ a x, ((![v641] : Fin 1 → IVec S16 32) a x).toNat < S128.size a)
theorem k0_idx53_inb : ∀ (v641 : IVec S16 32) (k0_hw53 : k0_chk53 v641), ∀ a x, ((![v641] : Fin 1 → IVec S16 32) a x).toNat < S128.size a := fun v641 k0_hw53 => k0_hw53

def k0_chk54 (v655 : IVec S16 32) : Prop :=
  (∀ a x, ((![v655] : Fin 1 → IVec S16 32) a x).toNat < S128.size a)
theorem k0_idx54_inb : ∀ (v655 : IVec S16 32) (k0_hw54 : k0_chk54 v655), ∀ a x, ((![v655] : Fin 1 → IVec S16 32) a x).toNat < S128.size a := fun v655 k0_hw54 => k0_hw54

def k0_chk55 (v669 : IVec S16 32) : Prop :=
  (∀ a x, ((![v669] : Fin 1 → IVec S16 32) a x).toNat < S128.size a)
theorem k0_idx55_inb : ∀ (v669 : IVec S16 32) (k0_hw55 : k0_chk55 v669), ∀ a x, ((![v669] : Fin 1 → IVec S16 32) a x).toNat < S128.size a := fun v669 k0_hw55 => k0_hw55

def k0_chk56 (v683 : IVec S16 32) : Prop :=
  (∀ a x, ((![v683] : Fin 1 → IVec S16 32) a x).toNat < S128.size a)
theorem k0_idx56_inb : ∀ (v683 : IVec S16 32) (k0_hw56 : k0_chk56 v683), ∀ a x, ((![v683] : Fin 1 → IVec S16 32) a x).toNat < S128.size a := fun v683 k0_hw56 => k0_hw56
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_280 : BitVec 32 := 4#32
  let v734 : BitVec 32 := Scalar.muli v2 c4_i32_280
  ![v734.toNat]
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c3_i32_281 : BitVec 32 := 3#32
  let v735 : BitVec 32 := Scalar.muli v2 c3_i32_281
  ![v735.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096 : Shape := ⟨1, ![4096]⟩
abbrev S100000x4 : Shape := ⟨2, ![100000, 4]⟩
abbrev S100000x3 : Shape := ⟨2, ![100000, 3]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x4 : Shape := ⟨2, ![4096, 4]⟩
abbrev S4096x3 : Shape := ⟨2, ![4096, 3]⟩

abbrev nBuf : Space → Nat
  | .hbm => 49
  | .vmem => 0
  | .smem => 0
  | _ => 0

abbrev bufTy : (tb : Table) → Fin (tcTables nBuf tb) → BufTy
  | .hbm, ⟨0, _⟩ => ⟨S4096, .i32⟩
  | .hbm, ⟨1, _⟩ => ⟨S100000x4, .f32⟩
  | .hbm, ⟨2, _⟩ => ⟨S100000x3, .f32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S1, .i32⟩
  | .hbm, ⟨12, _⟩ => ⟨S_, .i32⟩
  | .hbm, ⟨13, _⟩ => ⟨S4096x1, .i32⟩
  | .hbm, ⟨14, _⟩ => ⟨S4096x1, .i1⟩
  | .hbm, ⟨15, _⟩ => ⟨S1x1, .i32⟩
  | .hbm, ⟨16, _⟩ => ⟨S4096x1, .i32⟩
  | .hbm, ⟨17, _⟩ => ⟨S4096x1, .i1⟩
  | .hbm, ⟨18, _⟩ => ⟨S4096x1, .i1⟩
  | .hbm, ⟨19, _⟩ => ⟨S_, .i1⟩
  | .hbm, ⟨20, _⟩ => ⟨S4096, .i1⟩
  | .hbm, ⟨21, _⟩ => ⟨S4096x4, .f32⟩
  | .hbm, ⟨22, _⟩ => ⟨S4096x4, .i1⟩
  | .hbm, ⟨23, _⟩ => ⟨S_, .f32⟩
  | .hbm, ⟨24, _⟩ => ⟨S4096x4, .f32⟩
  | .hbm, ⟨25, _⟩ => ⟨S4096x4, .f32⟩
  | .hbm, ⟨26, _⟩ => ⟨S_, .i32⟩
  | .hbm, ⟨27, _⟩ => ⟨S4096, .i32⟩
  | .hbm, ⟨28, _⟩ => ⟨S4096, .i1⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S4096x1, .i32⟩
  | .hbm, ⟨34, _⟩ => ⟨S1, .i32⟩
  | .hbm, ⟨35, _⟩ => ⟨S_, .i32⟩
  | .hbm, ⟨36, _⟩ => ⟨S4096x1, .i32⟩
  | .hbm, ⟨37, _⟩ => ⟨S4096x1, .i1⟩
  | .hbm, ⟨38, _⟩ => ⟨S1x1, .i32⟩
  | .hbm, ⟨39, _⟩ => ⟨S4096x1, .i32⟩
  | .hbm, ⟨40, _⟩ => ⟨S4096x1, .i1⟩
  | .hbm, ⟨41, _⟩ => ⟨S4096x1, .i1⟩
  | .hbm, ⟨42, _⟩ => ⟨S_, .i1⟩
  | .hbm, ⟨43, _⟩ => ⟨S4096, .i1⟩
  | .hbm, ⟨44, _⟩ => ⟨S4096x3, .f32⟩
  | .hbm, ⟨45, _⟩ => ⟨S4096x3, .i1⟩
  | .hbm, ⟨46, _⟩ => ⟨S_, .f32⟩
  | .hbm, ⟨47, _⟩ => ⟨S4096x3, .f32⟩
  | .hbm, ⟨48, _⟩ => ⟨S4096x3, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v1 : Ref sig .tc := ⟨.hbm, 48, rfl⟩

abbrev nD : Nat := 1
abbrev τ : Topo := Topo.v7x

variable {F : FTy → Type} [FloatOps F]
-- ==== Proof.Streams.lean ====
/-
  Several indirect gathers in flight on ONE DMA semaphore. A gather of `o` rows is `o` row transfers, each crediting the
  semaphore alike; all the rows of all the gathers together are one counted batch of transfers
  (`Transfers.Batch`), whose deliveries are stated when the batch begins. Issuing a gather (`wp_gatherBatch`) spends the
  issue rights of its rows; what its rows deliver joins (`rowDelivery_join`) to its destination written, its share of
  the source and its share of the list.
-/
module

public import Idealize.ShloMosaic.Lib.SparseCore.Ops
public import Idealize.ShloMosaic.Lib.SparseCore.Stream
public import Idealize.ShloMosaic.Lib.Batch
public import Idealize.ShloMosaic.Lib.Tactic

@[expose] public section

noncomputable section

namespace Cert.Streams

open Idealize.ShloMosaic Idealize.ShloMosaic.SparseCore
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {F : FTy → Type} {Name : Type} [DecidableEq Name]
variable {U : Type} [URA U] {Lvl : Type}

local notation "𝕄" => MT nD τ sig Ix (Elt F) Name U Lvl

/-! ## Families over the members not yet used -/

section Pending

variable {n : ℕ}

/-- A family over the members from `j` on is its next `o` members and those from `j + o` on. -/
theorem bigSep_pending_add (Φ : Fin n → sProp 𝕄) (j o : ℕ) (h : j + o ≤ n) :
    bigSep (Transfers.pending j) Φ
      = iprop((bigSep Finset.univ fun i : Fin o => Φ ⟨j + i.val, by omega⟩) ∗ bigSep (Transfers.pending (j + o)) Φ) := by
  classical
  let f : Fin o ↪ Fin n := ⟨fun i => ⟨j + i.val, by omega⟩, fun a b hab => Fin.ext (by
    have h1 : j + a.val = j + b.val := congrArg Fin.val hab
    omega)⟩
  have hset : Transfers.pending (n := n) j = Finset.univ.map f ∪ Transfers.pending (j + o) := by
    ext t
    simp only [Transfers.pending, Finset.mem_filter, Finset.mem_univ, true_and, Finset.mem_union, Finset.mem_map]
    constructor
    · intro ht
      by_cases h' : j + o ≤ t.val
      · exact .inr h'
      · exact .inl ⟨⟨t.val - j, by omega⟩, Fin.ext (show j + (t.val - j) = t.val by omega)⟩
    · rintro (⟨i, rfl⟩ | ht)
      · exact Nat.le_add_right j i.val
      · omega
  have hdis : Disjoint (Finset.univ.map f) (Transfers.pending (n := n) (j + o)) := by
    refine Finset.disjoint_left.mpr fun t ht ht' => ?_
    obtain ⟨i, -, rfl⟩ := Finset.mem_map.mp ht
    have h1 : j + o ≤ j + i.val := (Finset.mem_filter.mp ht').2
    have := i.isLt
    omega
  rw [hset, bigSep_union hdis, BI.bigSep_map]
  rfl

/-- Nothing is left from the end on. -/
theorem bigSep_pending_end (Φ : Fin n → sProp 𝕄) (j : ℕ) (h : n ≤ j) : bigSep (Transfers.pending j) Φ = (iprop(emp) : sProp 𝕄) := by
  rw [show Transfers.pending (n := n) j = ∅ from Finset.filter_eq_empty_iff.mpr fun t _ => by have := t.isLt; omega]
  rfl

end Pending

/-! ## One gather's rows -/

variable [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

/-- What row `j` of a gather delivers: row `j` of the destination written with the row of the source its list entry
    names, that entry's share, and the row's piece of the share of the source. -/
def rowDelivery (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) : sProp 𝕄 :=
  iprop(((dst.view.loc c ↦[(dst.view.slice (s.rowRect hg.axis' j)).set]{fullShare}
        ((dst.view.slice (s.rowRect hg.axis' j)).write (Elt F) fd
          (fun i => src.view.read (Elt F) fs (hg.rowIdx (rows (offs.view.read (Elt F) fo) hn hin j) i)) Finset.univ))
      ∗ (offs.view.loc c ↦[{offs.view.emb (si.rowMajor.symm (j.cast hn.symm))}]{qo} fo))
    ∗ (src.view.loc c ↦[src.view.set]{pieceOf q _ ho j} fs))

instance rowDelivery_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) :
    BI.Storable (upEmb : UEmb _ 𝕄) (rowDelivery c src dst hg offs hn ho q qo fs fd fo hin j) := by
  unfold rowDelivery; infer_instance

theorem entry_bijective {o : ℕ} (hn : si.numel = o) : Function.Bijective fun j : Fin o => si.rowMajor.symm (j.cast hn.symm) :=
  si.rowMajor.symm.bijective.comp (finCongr hn.symm).bijective

/-- A gather's rows' deliveries together are its destination written with the gathered rows, its share of the source
    and its share of the list. -/
theorem rowDelivery_join (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) :
    (bigSep Finset.univ (rowDelivery c src dst hg offs hn ho q qo fs fd fo hin) : sProp 𝕄)
      ⊢ iprop((dst.view.loc c ↦[dst.view.set]{fullShare}
            (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) := by
  have hrows := pointsTo_rows_write (Ix := Ix) (Name := Name) (U := U) (Lvl := Lvl) c dst.view hg.axis' fd
      (fun j i => src.view.read (Elt F) fs (hg.rowIdx (rows (offs.view.read (Elt F) fo) hn hin j) i))
      (gatherPayload hg (src.view.read (Elt F) fs) (rows (offs.view.read (Elt F) fo) hn hin)) fun j i => by
        unfold gatherPayload; rw [Shape.Gathers.idx_rowRect_emb]
  unfold rowDelivery
  iintro HD
  ihave H1 := Transfers.bigSep_sep_out _ _ _ $$ HD
  icases H1 with ⟨H2, Hsrc⟩
  ihave H3 := Transfers.bigSep_sep_out _ _ _ $$ H2
  icases H3 with ⟨Hrows, Hoffs⟩
  isplitl [Hrows]
  · iapply hrows; iexact Hrows
  isplitl [Hsrc]; · iapply (Entails.of_eq (pointsTo_piecesOf (src.view.set) fs ho q).symm) $$ Hsrc
  iapply (Entails.of_eq (pointsTo_entries c offs.view _ (entry_bijective hn) qo fo).symm) $$ Hoffs

/-- Issuing a gather whose rows are the next transfers of a batch: from a share of the source, the destination
    outright, a share of the list whose words are all rows of the source (`hin`), and the batch with `j` transfers
    issued, the core continues with the batch, the gather's rows issued too; the rows' deliveries are the batch's
    (`hD`), each row credits what a transfer of the batch does (`hcr`). -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {n : ℕ} {D : Fin n → sProp 𝕄} {j u : ℕ} (ι : Ix) (N : ℕ) (ho : 0 < s.size hg.axis')
    (hcr : ∀ i, (dst.slice (s.rowRect hg.axis' i) (s.stride_rowRect hg.axis' i)).view.dmaCredit = N)
    (hin : ∀ x, (offs.view.read (Elt F) fo x).toNat < s₀.size hg.axis)
    (hj : j + s.size hg.axis' ≤ n) (hu : u ≤ j * N)
    (hD : ∀ i : Fin (s.size hg.axis'), rowDelivery c src dst hg offs hn ho q qo fs fd fo hin i = D ⟨j + i.val, by omega⟩) :
    iprop((src.view.loc c ↦[src.view.set]{q} fs) ∗ (dst.view.loc c ↦[dst.view.set]{fullShare} fd)
        ∗ (offs.view.loc c ↦[offs.view.set]{qo} fo) ∗ Transfers.Batch EC c (.dma sem) ι N D j u)
      ⊢ iprop((Transfers.Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  unfold Transfers.Batch
  iintro ⟨Hs, Hd, Ho, ⟨%γ, %γ₀, %κ, #Hinv, HI, H0, Hcred⟩⟩ Hk
  ihave Hd' := (Entails.of_eq (pointsTo_rows c dst.view hg.axis' fullShare fd)) $$ Hd
  ihave Ho' := (Entails.of_eq (pointsTo_entries c offs.view S.entry (entry_bijective hn) qo fo)) $$ Ho
  ihave Hs' := (Entails.of_eq (pointsTo_piecesOf (src.view.set) fs ho q)) $$ Hs
  ihave HI' := (Entails.of_eq (bigSep_pending_add (fun t => count EC (γ t) 0) j (s.size hg.axis') hj)) $$ HI
  icases HI' with ⟨Hγ, HI⟩
  iapply (wp_enqueueIndirectDma 𝒱 c bd Set.univ (qo := qo) (fo := fo) (rd := rd) ι (s.size hg.axis' * N) hA hrd
    (sum_rowCredit_eq _ hcr rfl)) $$ [Hd' Ho' Hs' Hγ]
  · have hrow : ∀ i : Fin (s.size hg.axis'), iprop(inv κ (Transfers.batchBody EC (c, SemLoc.dma sem) N D γ γ₀)
          ∗ ((((dst.view.loc c ↦[(dst.view.slice (s.rowRect hg.axis' i)).set]{fullShare} fd) ∗ S.heldEntry qo fo i)
          ∗ (src.view.loc c ↦[src.view.set]{pieceOf q _ ho i} fs)) ∗ count EC (γ ⟨j + i.val, by omega⟩) 0))
        ⊢ iprop(S.heldEntry qo fo i ∗ (S.heldEntry qo fo i -∗ rowRes c (rd i))) := fun i => by
      iintro ⟨#Hinv, ⟨⟨Hr, He⟩, Hsq⟩, Hγi⟩
      isplitl [He]; · iexact He
      iintro He
      unfold rowRes
      iexists pieceOf q _ ho i, fs, iprop((dst.view.loc c ↦[(dst.view.slice (s.rowRect hg.axis' i)).set]{fullShare}
        ((dst.view.slice (s.rowRect hg.axis' i)).write (Elt F) fd (fun x => src.view.read (Elt F) fs (hg.rowIdx (r i) x)) Finset.univ)) ∗ S.heldEntry qo fo i)
      isplitl [Hsq]; · iexact Hsq
      isplitl [Hr He]
      · iapply writeUpdate_frame
        isplitl [Hr]
        · iapply (pointsTo_writeUpdate c (v := dst.view.slice (s.rowRect hg.axis' i)) subset_rfl) $$ Hr
        · iexact He
      · have hci : (rd i).dst.view.amount (.dma sem) = N := hcr i
        rw [hci]
        iapply (Transfers.batch_creditUpdate EC (D := D) (γ := γ) (γ₀ := γ₀) ⟨j + i.val, by omega⟩ (Entails.of_eq (hD i)))
        isplitr; · iexact Hinv
        iexact Hγi
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun j _ => hrow j)
    isplitr; · iexact Hinv
    iexact H3
  iintro Hcred'
  iapply Hk
  iexists γ, γ₀, κ
  isplitr; · iexact Hinv
  isplitl [HI]; · iexact HI
  isplitl [H0]; · iexact H0
  rw [show (j + s.size hg.axis') * N - u = (j * N - u) + s.size hg.axis' * N by rw [Nat.add_mul]; omega, ← tallyAt_add]
  icombine Hcred Hcred' as H
  iexact H

end Cert.Streams

end
-- ==== Proof.IdealProgram.lean ====
/-
  The task of one vector subcore as a short program. The printed function `cc0__gather_body` writes its 32 chunks of the
  first index list, its 24 chunks of the second, its seven indirect gathers and their seven waits one after another; here
  each of those is one definition taking the number of the chunk (or of the gather), repeated by `chain`, and
  `gather_body_eq` says that the printed function is that program.
-/
module

public import proofs.«01_k».proof.Proof.Gen.KernelIdeal
public import Idealize.ShloMosaic.Lib.SparseCore.Ops

@[expose] public section

noncomputable section

namespace Cert.KernelIdeal.Gather

open Cert.KernelIdeal Cert.KernelIdeal.Gen
open Idealize.ShloMosaic Idealize.SL.Sem

variable {F : FTy → Type} [FloatOps F]

/-- `g 0`, then `g 1`, up to `g (n - 1)`, then the program `p`. -/
def chain {P : Type 1} : (n : ℕ) → (Fin n → P → P) → P → P
  | 0, _, p => p
  | n + 1, g, p => chain n (fun k => g k.castSucc) (g (Fin.last n) p)

/-- The program of vector subcore `L 1` of SparseCore `L 0`. -/
abbrev TileProg (F : FTy → Type) (L : grid0.Coords) : Type 1 :=
  Prog (TpuEff nD τ sig (Elt F) Λ₀ (.scVector ((L 0).castLE hcore0) ((L 1).castLE hsub0))) PUnit

/-! ## The buffers -/

/-- The row numbers, in HBM. -/
abbrev idxM : Memref sig .scVector .hbm S4096 .i32 := Memref.whole main_arg0_scv
/-- The first table, flat, in HBM. -/
abbrev qM : Memref sig .scVector .hbm S400000 .f32 := Memref.whole main_v0_scv
/-- The second table, flat, in HBM. -/
abbrev tM : Memref sig .scVector .hbm S300000 .f32 := Memref.whole main_v1_scv
/-- The first result, flat, in HBM. -/
abbrev qoM : Memref sig .scVector .hbm S16384 .f32 := Memref.whole main_v2_0_scv
/-- The second result, flat, in HBM. -/
abbrev toM : Memref sig .scVector .hbm S12288 .f32 := Memref.whole main_v2_1_scv
/-- The subcore's 128 row numbers. -/
abbrev ivM : Memref sig .scVector .vmem S128 .i32 := Memref.whole cc0_scratch0
/-- The subcore's element numbers in the first table. -/
abbrev qiM : Memref sig .scVector .vmem S512 .i32 := Memref.whole cc0_scratch1
/-- The subcore's element numbers in the second table. -/
abbrev tiM : Memref sig .scVector .vmem S384 .i32 := Memref.whole cc0_scratch2
/-- The subcore's elements of the first table. -/
abbrev qrM : Memref sig .scVector .vmem S512 .f32 := Memref.whole cc0_scratch3
/-- The subcore's elements of the second table. -/
abbrev trM : Memref sig .scVector .vmem S384 .f32 := Memref.whole cc0_scratch4

/-! ## The chunks of the two index lists -/

/-- The sixteen lanes' positions in chunk `c`: `16 * c` and on. -/
def pos (c : ℕ) : IVec S16 32 :=
  addi (broadcast S16 (BitVec.ofNat 32 (16 * c))) (iota .scVector S16 32 [0] iota_S16_d0_w32_scVector)

/-- The row-number entry lane by lane of chunk `c` of the first list: the position over four. -/
def qEntry (c : ℕ) : IVec S16 32 := shrsi (pos c) (broadcast S16 2#32)
/-- What chunk `c` stores, given the row numbers `v` of its entries: four times the row number and the position's rest. -/
def qWords (c : ℕ) (v : IVec S16 32) : IVec S16 32 :=
  addi (muli v (broadcast S16 4#32)) (andi (pos c) (broadcast S16 3#32))

/-- The row-number entry lane by lane of chunk `c` of the second list: the position over three, by a product and a
    shift. -/
def tEntry (c : ℕ) : IVec S16 32 := shrsi (muli (pos c) (broadcast S16 21846#32)) (broadcast S16 16#32)
/-- What chunk `c` stores, given the row numbers `v` of its entries: three times the row number and the position's
    rest. -/
def tWords (c : ℕ) (v : IVec S16 32) : IVec S16 32 :=
  addi (muli v (broadcast S16 3#32)) (subi (pos c) (muli (tEntry c) (broadcast S16 3#32)))

theorem qChunk_inb (c : Fin 32) : ∀ a, (![16 * c.val] : Fin 1 → ℕ) a + S16.size a ≤ S512.size a := fun a => by
  match a with
  | 0 => change 16 * c.val + 16 ≤ 512; omega
theorem tChunk_inb (c : Fin 24) : ∀ a, (![16 * c.val] : Fin 1 → ℕ) a + S16.size a ≤ S384.size a := fun a => by
  match a with
  | 0 => change 16 * c.val + 16 ≤ 384; omega

/-- The sixteen places of chunk `c` of the first list. -/
abbrev qRect (c : Fin 32) : Rect S512 := Rect.unit (s := S512) ![16 * c.val] S16.size (qChunk_inb c)
/-- The sixteen places of chunk `c` of the second list. -/
abbrev tRect (c : Fin 24) : Rect S384 := Rect.unit (s := S384) ![16 * c.val] S16.size (tChunk_inb c)

/-- Chunk `c` of the first list, then `p`: the lanes' row numbers read, their element numbers stored. -/
def qChunk (L : grid0.Coords) (c : Fin 32) (p : TileProg F L) : TileProg F L :=
  .op (.assume (k0_chk1 (qEntry c)) (k0_chk1.dec (qEntry c))) fun h =>
    SparseCore.vectorLoadIdx ivM ![qEntry c] (k0_idx1_inb (qEntry c) h.down) (View.loads_vmem h_S128) >>= fun v =>
      .op (.load qiM (qRect c).toLoadRect (View.loadsAt_vmem h_S16)) fun _ =>
        .op (.store qiM (qRect c) (qWords c v) Finset.univ (View.stores_vmem_bits_univ h_S16 rfl) (.inl rfl)) fun _ => p

/-- Chunk `c` of the second list, then `p`. -/
def tChunk (L : grid0.Coords) (c : Fin 24) (p : TileProg F L) : TileProg F L :=
  .op (.assume (k0_chk1 (tEntry c)) (k0_chk1.dec (tEntry c))) fun h =>
    SparseCore.vectorLoadIdx ivM ![tEntry c] (k0_idx1_inb (tEntry c) h.down) (View.loads_vmem h_S128) >>= fun v =>
      .op (.load tiM (tRect c).toLoadRect (View.loadsAt_vmem h_S16)) fun _ =>
        .op (.store tiM (tRect c) (tWords c v) Finset.univ (View.stores_vmem_bits_univ h_S16 rfl) (.inl rfl)) fun _ => p

/-! ## The indirect gathers and their waits -/

theorem qPart_inb (k : Fin 4) : ∀ a, (![128 * k.val] : Fin 1 → ℕ) a + S128.size a ≤ S512.size a := fun a => by
  match a with
  | 0 => change 128 * k.val + 128 ≤ 512; omega
theorem tPart_inb (k : Fin 3) : ∀ a, (![128 * k.val] : Fin 1 → ℕ) a + S128.size a ≤ S384.size a := fun a => by
  match a with
  | 0 => change 128 * k.val + 128 ≤ 384; omega

/-- The 128 places of gather `k` of the first table. -/
abbrev qPart (k : Fin 4) : Rect S512 := Rect.unit (s := S512) ![128 * k.val] S128.size (qPart_inb k)
/-- The 128 places of gather `k` of the second table. -/
abbrev tPart (k : Fin 3) : Rect S384 := Rect.unit (s := S384) ![128 * k.val] S128.size (tPart_inb k)

/-- All of the first table, as a gather names it. -/
abbrev qAll : Memref sig .scVector .hbm S400000 .f32 :=
  qM.slice (Rect.unit (s := S400000) ![0] S400000.size inb_S400000_S400000_0) (fun _ => rfl)
/-- All of the second table, as a gather names it. -/
abbrev tAll : Memref sig .scVector .hbm S300000 .f32 :=
  tM.slice (Rect.unit (s := S300000) ![0] S300000.size inb_S300000_S300000_0) (fun _ => rfl)
/-- Gather `k`'s destination among the first table's elements. -/
abbrev qDst (k : Fin 4) : Memref sig .scVector .vmem S128 .f32 := qrM.slice (qPart k) (fun _ => rfl)
/-- Gather `k`'s list among the element numbers in the first table. -/
abbrev qOff (k : Fin 4) : Memref sig .scVector .vmem S128 .i32 := qiM.slice (qPart k) (fun _ => rfl)
/-- Gather `k`'s destination among the second table's elements. -/
abbrev tDst (k : Fin 3) : Memref sig .scVector .vmem S128 .f32 := trM.slice (tPart k) (fun _ => rfl)
/-- Gather `k`'s list among the element numbers in the second table. -/
abbrev tOff (k : Fin 3) : Memref sig .scVector .vmem S128 .i32 := tiM.slice (tPart k) (fun _ => rfl)

/-- Gather `k` of the first table, then `p`. -/
def qIssue (L : grid0.Coords) (k : Fin 4) (p : TileProg F L) : TileProg F L :=
  SparseCore.enqueueIndirectGather rfl qAll (qDst k) gathers_S400000_S128 (qOff k) rfl cc0_scratch5.sem (View.wordExact_bits rfl) rfl (Or.inl rfl)
    >>= fun _ => p
/-- Gather `k` of the second table, then `p`. -/
def tIssue (L : grid0.Coords) (k : Fin 3) (p : TileProg F L) : TileProg F L :=
  SparseCore.enqueueIndirectGather rfl tAll (tDst k) gathers_S300000_S128 (tOff k) rfl cc0_scratch5.sem (View.wordExact_bits rfl) rfl (Or.inl rfl)
    >>= fun _ => p
/-- The wait for as many bits as gather `k` of the first table moves, then `p`. -/
def qWait (L : grid0.Coords) (k : Fin 4) (p : TileProg F L) : TileProg F L :=
  .op (.waitDma2 cc0_scratch5.sem qAll (qDst k) (View.wordExact_bits rfl) (View.wordExact_bits rfl)) fun _ => p
/-- The wait for as many bits as gather `k` of the second table moves, then `p`. -/
def tWait (L : grid0.Coords) (k : Fin 3) (p : TileProg F L) : TileProg F L :=
  .op (.waitDma2 cc0_scratch5.sem tAll (tDst k) (View.wordExact_bits rfl) (View.wordExact_bits rfl)) fun _ => p

/-! ## The whole task -/

/-- The subcore's 128 row numbers, in HBM. -/
abbrev idxRow (L : grid0.Coords) : Memref sig .scVector .hbm S128 .i32 :=
  idxM.slice (Rect.unit (s := S4096) (k0_off1 L) S128.size (k0_off1_inb L)) (fun _ => rfl)
/-- The subcore's block of the first result, in HBM. -/
abbrev qoRow (L : grid0.Coords) : Memref sig .scVector .hbm S512 .f32 :=
  qoM.slice (Rect.unit (s := S16384) (k0_off2 L) S512.size (k0_off2_inb L)) (fun _ => rfl)
/-- The subcore's block of the second result, in HBM. -/
abbrev toRow (L : grid0.Coords) : Memref sig .scVector .hbm S384 .f32 :=
  toM.slice (Rect.unit (s := S12288) (k0_off3 L) S384.size (k0_off3_inb L)) (fun _ => rfl)

/-- The two write-outs, each waited for. -/
def outProg (L : grid0.Coords) : TileProg F L :=
  .op (.enqueueDma qrM (.here (qoRow L)) (.dma cc0_scoped1.sem) (Memref.isWhole_whole _).wordExact (View.wordExact_bits rfl) ⟨Or.inl rfl, trivial⟩) fun _ =>
  .op (.waitDma2 cc0_scoped1.sem qrM (qoRow L) (Memref.isWhole_whole _).wordExact (View.wordExact_bits rfl)) fun _ =>
  .op (.enqueueDma trM (.here (toRow L)) (.dma cc0_scoped2.sem) (Memref.isWhole_whole _).wordExact (View.wordExact_bits rfl) ⟨Or.inl rfl, trivial⟩) fun _ =>
  .op (.waitDma2 cc0_scoped2.sem trM (toRow L) (Memref.isWhole_whole _).wordExact (View.wordExact_bits rfl)) fun _ =>
  .ret ⟨⟩

/-- The two index lists, the seven gathers, their waits, and the write-outs. -/
def midProg (L : grid0.Coords) : TileProg F L :=
  chain 32 (qChunk L) (chain 24 (tChunk L) (chain 4 (qIssue L) (chain 3 (tIssue L)
    (chain 4 (qWait L) (chain 3 (tWait L) (outProg L))))))

/-- The fetch of the row numbers and its wait, then `p`. -/
def fetchProg (L : grid0.Coords) (p : TileProg F L) : TileProg F L :=
  .op (.enqueueDma (idxRow L) (.here ivM) (.dma cc0_scoped0.sem) (View.wordExact_bits rfl) (Memref.isWhole_whole _).wordExact ⟨Or.inl rfl, trivial⟩) fun _ =>
  .op (.waitDma2 cc0_scoped0.sem (idxRow L) ivM (View.wordExact_bits rfl) (Memref.isWhole_whole _).wordExact) fun _ =>
  p

/-- The whole task: the row numbers fetched, then `midProg`. -/
def tileProg (L : grid0.Coords) : TileProg F L := fetchProg L (midProg L)

set_option maxRecDepth 65536 in
set_option maxHeartbeats 4000000 in
/-- The printed task is `tileProg`. -/
theorem gather_body_eq (L : grid0.Coords) :
    cc0__gather_body (F := F) L idxM (Memref.isWhole_whole _) qM (Memref.isWhole_whole _) tM (Memref.isWhole_whole _)
      qoM (Memref.isWhole_whole _) toM (Memref.isWhole_whole _) ivM (Memref.isWhole_whole _) qiM (Memref.isWhole_whole _)
      tiM (Memref.isWhole_whole _) qrM (Memref.isWhole_whole _) trM (Memref.isWhole_whole _)
      cc0_scratch5 cc0_scoped0 cc0_scoped1 cc0_scoped2 = tileProg L := rfl

end Cert.KernelIdeal.Gather

end
-- ==== Proof.IdealWords.lean ====
/-
  The two index lists of a vector subcore, word by word. Position `x` of the first list names element `x % 4` of the row
  of number `x / 4`, `4 * row + x % 4` in the flat table; position `x` of the second names element `x % 3` of the row of
  number `x / 3`, `3 * row + x % 3`. The program finds `x / 3` as `(x * 21846) >> 16`, which is the quotient below 384.
-/
module

public import proofs.«01_k».proof.Proof.IdealProgram

@[expose] public section

noncomputable section

namespace Cert.KernelIdeal.Gather

open Cert.KernelIdeal Cert.KernelIdeal.Gen
open Idealize.ShloMosaic Idealize.SL.Sem

/-- Place `k` of a subcore's 128 row numbers. -/
def i128 (k : ℕ) : S128.Idx := fun | 0 => ⟨k % 128, Nat.mod_lt _ (by decide)⟩

/-- The word at position `x` of the first list, over the row numbers `v`. -/
def qWord (v : S128.Idx → BitVec 32) (x : S512.Idx) : BitVec 32 :=
  v (i128 ((x 0).val / 4)) * 4#32 + BitVec.ofNat 32 ((x 0).val % 4)
/-- The word at position `x` of the second list, over the row numbers `v`. -/
def tWord (v : S128.Idx → BitVec 32) (x : S384.Idx) : BitVec 32 :=
  v (i128 ((x 0).val / 3)) * 3#32 + BitVec.ofNat 32 ((x 0).val % 3)

/-- With the row number below 100000 the first word is `4 * row + x % 4`, below 400000. -/
theorem qWord_toNat (v : S128.Idx → BitVec 32) (hv : ∀ j, (v j).toNat < 100000) (x : S512.Idx) :
    (qWord v x).toNat = (v (i128 ((x 0).val / 4))).toNat * 4 + (x 0).val % 4 := by
  have h := hv (i128 ((x 0).val / 4))
  have := (x 0).isLt
  simp only [qWord, BitVec.toNat_add, BitVec.toNat_mul, BitVec.toNat_ofNat]
  omega
theorem tWord_toNat (v : S128.Idx → BitVec 32) (hv : ∀ j, (v j).toNat < 100000) (x : S384.Idx) :
    (tWord v x).toNat = (v (i128 ((x 0).val / 3))).toNat * 3 + (x 0).val % 3 := by
  have h := hv (i128 ((x 0).val / 3))
  have := (x 0).isLt
  simp only [tWord, BitVec.toNat_add, BitVec.toNat_mul, BitVec.toNat_ofNat]
  omega
theorem qWord_lt (v : S128.Idx → BitVec 32) (hv : ∀ j, (v j).toNat < 100000) (x : S512.Idx) : (qWord v x).toNat < 400000 := by
  rw [qWord_toNat v hv]; have := hv (i128 ((x 0).val / 4)); omega
theorem tWord_lt (v : S128.Idx → BitVec 32) (hv : ∀ j, (v j).toNat < 100000) (x : S384.Idx) : (tWord v x).toNat < 300000 := by
  rw [tWord_toNat v hv]; have := hv (i128 ((x 0).val / 3)); omega

/-! ## The lanes of a chunk -/

theorem pos_apply (c : ℕ) (j : S16.Idx) : pos c j = BitVec.ofNat 32 (16 * c + (j 0).val) := by
  simp [pos, addi, IntOp.addi, broadcast, iota, BitVec.ofNat_add]

theorem shift_ofNat (p k : ℕ) (hp : p < 2 ^ 31) (hk : k < 32) :
    IntOp.shrsi .vector (BitVec.ofNat 32 p) (BitVec.ofNat 32 k) = BitVec.ofNat 32 (p / 2 ^ k) := by
  have hk' : (BitVec.ofNat 32 k).toNat = k := by rw [BitVec.toNat_ofNat]; omega
  have hp' : (BitVec.ofNat 32 p).toNat = p := by rw [BitVec.toNat_ofNat]; omega
  have hm : (BitVec.ofNat 32 p).msb = false := by rw [BitVec.msb_eq_false_iff_two_mul_lt, hp']; omega
  rw [IntOp.shrsi, if_pos (by omega), BitVec.sshiftRight_eq', hk', BitVec.sshiftRight_eq_of_msb_false hm]
  apply BitVec.eq_of_toNat_eq
  rw [BitVec.toNat_ushiftRight, hp', Nat.shiftRight_eq_div_pow, BitVec.toNat_ofNat, Nat.mod_eq_of_lt]
  exact lt_of_le_of_lt (Nat.div_le_self _ _) (by omega)

theorem qEntry_apply (c : ℕ) (hc : c < 32) (j : S16.Idx) : qEntry c j = BitVec.ofNat 32 ((16 * c + (j 0).val) / 4) := by
  have h := (j 0).isLt
  have h16 : (j 0).val < 16 := h
  change IntOp.shrsi .vector (pos c j) (BitVec.ofNat 32 2) = _
  rw [pos_apply, shift_ofNat _ _ (by omega) (by omega)]; rfl

theorem tEntry_apply (c : ℕ) (hc : c < 24) (j : S16.Idx) : tEntry c j = BitVec.ofNat 32 ((16 * c + (j 0).val) / 3) := by
  have h16 : (j 0).val < 16 := (j 0).isLt
  change IntOp.shrsi .vector (pos c j * BitVec.ofNat 32 21846) (BitVec.ofNat 32 16) = _
  rw [pos_apply, ← BitVec.ofNat_mul, shift_ofNat _ _ (by omega) (by omega)]
  congr 1; omega

theorem qEntry_chk (c : Fin 32) : k0_chk1 (qEntry c) := fun a x => by
  match a with
  | 0 =>
    change (qEntry c x).toNat < 128
    have h16 : (x 0).val < 16 := (x 0).isLt
    rw [qEntry_apply _ c.isLt, BitVec.toNat_ofNat]; omega

theorem tEntry_chk (c : Fin 24) : k0_chk1 (tEntry c) := fun a x => by
  match a with
  | 0 =>
    change (tEntry c x).toNat < 128
    have h16 : (x 0).val < 16 := (x 0).isLt
    have hlt : (16 * c.val + (x 0).val) / 3 < 128 := by have := c.isLt; omega
    rw [tEntry_apply _ c.isLt, BitVec.toNat_ofNat]; exact lt_of_le_of_lt (Nat.mod_le _ _) hlt

/-- What chunk `c` stores is the first list's words at the chunk's places. -/
theorem qWords_apply {F : FTy → Type} (c : Fin 32) (v : S128.Idx → BitVec 32) (h) (j : S16.Idx) :
    qWords c (loadIdx (F := F) (s := S128) (e := .i32) v ![qEntry c] h) j = qWord v ((qRect c).emb j) := by
  have h16 : (j 0).val < 16 := (j 0).isLt
  have hx : (((qRect c).emb j) 0).val = 16 * c.val + (j 0).val := by
    rw [Rect.emb_apply]; simp
  have hi : idxAt (s := S128) ![qEntry c] h j = i128 ((16 * c.val + (j 0).val) / 4) := by
    funext a
    match a with
    | 0 =>
      apply Fin.ext
      change (qEntry c j).toNat = (16 * c.val + (j 0).val) / 4 % 128
      rw [qEntry_apply _ c.isLt, BitVec.toNat_ofNat]; omega
  have ha : BitVec.ofNat 32 (16 * c.val + (j 0).val) &&& 3#32 = BitVec.ofNat 32 ((16 * c.val + (j 0).val) % 4) := by
    apply BitVec.eq_of_toNat_eq
    rw [BitVec.toNat_and, BitVec.toNat_ofNat, show (3#32).toNat = 2 ^ 2 - 1 from rfl, Nat.and_two_pow_sub_one_eq_mod, BitVec.toNat_ofNat]
    omega
  change v (idxAt ![qEntry c] h j) * 4#32 + (pos c j &&& 3#32) = _
  rw [hi, pos_apply, ha, qWord, hx]

/-- What chunk `c` stores is the second list's words at the chunk's places. -/
theorem tWords_apply {F : FTy → Type} (c : Fin 24) (v : S128.Idx → BitVec 32) (h) (j : S16.Idx) :
    tWords c (loadIdx (F := F) (s := S128) (e := .i32) v ![tEntry c] h) j = tWord v ((tRect c).emb j) := by
  have h16 : (j 0).val < 16 := (j 0).isLt
  have hx : (((tRect c).emb j) 0).val = 16 * c.val + (j 0).val := by
    rw [Rect.emb_apply]; simp
  have hi : idxAt (s := S128) ![tEntry c] h j = i128 ((16 * c.val + (j 0).val) / 3) := by
    funext a
    match a with
    | 0 =>
      apply Fin.ext
      change (tEntry c j).toNat = (16 * c.val + (j 0).val) / 3 % 128
      have hlt : (16 * c.val + (j 0).val) / 3 < 128 := by have := c.isLt; omega
      rw [tEntry_apply _ c.isLt, BitVec.toNat_ofNat, Nat.mod_eq_of_lt (lt_trans hlt (by decide)), Nat.mod_eq_of_lt hlt]
  have ha : BitVec.ofNat 32 (16 * c.val + (j 0).val) - BitVec.ofNat 32 ((16 * c.val + (j 0).val) / 3) * 3#32
      = BitVec.ofNat 32 ((16 * c.val + (j 0).val) % 3) := by
    apply BitVec.eq_of_toNat_eq
    simp only [BitVec.toNat_sub, BitVec.toNat_mul, BitVec.toNat_ofNat]
    omega
  change v (idxAt ![tEntry c] h j) * 3#32 + (pos c j - tEntry c j * 3#32) = _
  rw [hi, pos_apply, tEntry_apply _ c.isLt, ha, tWord, hx]

/-! ## The lists filled chunk by chunk -/

/-- The first `n` words of the first list are in place. -/
def qDone (v : S128.Idx → BitVec 32) (n : ℕ) (g : S512.Idx → BitVec 32) : Prop := ∀ x : S512.Idx, (x 0).val < n → g x = qWord v x
/-- The first `n` words of the second list are in place. -/
def tDone (v : S128.Idx → BitVec 32) (n : ℕ) (g : S384.Idx → BitVec 32) : Prop := ∀ x : S384.Idx, (x 0).val < n → g x = tWord v x

/-- A chunk's store adds its sixteen words to those in place. -/
theorem qDone_step {F : FTy → Type} (v : S128.Idx → BitVec 32) (c : Fin 32) (g : S512.Idx → BitVec 32) (w : S16.Idx → BitVec 32)
    (hw : ∀ j, w j = qWord v ((qRect c).emb j)) (hg : qDone v (16 * c.val) g) :
    qDone v (16 * (c.val + 1)) ((qiM.access (qRect c)).write (Elt F) g w Finset.univ) := by
  intro x hx
  by_cases hm : x ∈ (qRect c).set
  · obtain ⟨j, rfl⟩ : ∃ j, (qRect c).emb j = x := by
      rw [← Rect.map_emb_univ] at hm
      obtain ⟨j, -, h⟩ := Finset.mem_map.mp hm
      exact ⟨j, h⟩
    refine Eq.trans ?_ (hw j)
    exact View.write_emb_of_mem (v := qiM.access (qRect c)) (Val := Elt F) g w (M := Finset.univ) (x := j) (Finset.mem_univ j)
  · have hn : x ∉ (qiM.access (qRect c)).setOn Finset.univ := by
      intro h
      apply hm
      rw [← Rect.map_emb_univ]
      obtain ⟨j, -, h⟩ := Finset.mem_map.mp h
      exact Finset.mem_map.mpr ⟨j, Finset.mem_univ _, h⟩
    refine (View.write_of_not_mem (v := qiM.access (qRect c)) (Val := Elt F) g w Finset.univ hn).trans (hg x ?_)
    by_contra hlt
    refine hm (Rect.mem_set_unit.mpr fun a => ?_)
    match a with
    | 0 =>
      change 16 * c.val ≤ (x 0).val ∧ (x 0).val < 16 * c.val + 16
      omega

/-- A chunk's store adds its sixteen words to those in place. -/
theorem tDone_step {F : FTy → Type} (v : S128.Idx → BitVec 32) (c : Fin 24) (g : S384.Idx → BitVec 32) (w : S16.Idx → BitVec 32)
    (hw : ∀ j, w j = tWord v ((tRect c).emb j)) (hg : tDone v (16 * c.val) g) :
    tDone v (16 * (c.val + 1)) ((tiM.access (tRect c)).write (Elt F) g w Finset.univ) := by
  intro x hx
  by_cases hm : x ∈ (tRect c).set
  · obtain ⟨j, rfl⟩ : ∃ j, (tRect c).emb j = x := by
      rw [← Rect.map_emb_univ] at hm
      obtain ⟨j, -, h⟩ := Finset.mem_map.mp hm
      exact ⟨j, h⟩
    refine Eq.trans ?_ (hw j)
    exact View.write_emb_of_mem (v := tiM.access (tRect c)) (Val := Elt F) g w (M := Finset.univ) (x := j) (Finset.mem_univ j)
  · have hn : x ∉ (tiM.access (tRect c)).setOn Finset.univ := by
      intro h
      apply hm
      rw [← Rect.map_emb_univ]
      obtain ⟨j, -, h⟩ := Finset.mem_map.mp h
      exact Finset.mem_map.mpr ⟨j, Finset.mem_univ _, h⟩
    refine (View.write_of_not_mem (v := tiM.access (tRect c)) (Val := Elt F) g w Finset.univ hn).trans (hg x ?_)
    by_contra hlt
    refine hm (Rect.mem_set_unit.mpr fun a => ?_)
    match a with
    | 0 =>
      change 16 * c.val ≤ (x 0).val ∧ (x 0).val < 16 * c.val + 16
      omega

end Cert.KernelIdeal.Gather

end
-- ==== Proof.IdealSetup.lean ====
/-
  The program as the launch theorem of a SparseCore call sees it, its resource algebra, its buffers, and how they are
  dealt out: subcore `s` of SparseCore `c` works on block `2 * s + c` of the row numbers and of the two results, and reads
  the two tables at one of 32 shares.
-/
module

public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.IdealWords
public import proofs.«01_k».proof.Proof.Streams

@[expose] public section

noncomputable section

namespace Cert.KernelIdeal.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's set-up -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The subcore, its buffers and its cells -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The SparseCore's number. -/
abbrev cL (L : grid0.Coords) : Fin 2 := Fin.cast bound_zero (L 0)
/-- The subcore's number on its SparseCore. -/
abbrev jL (L : grid0.Coords) : Fin 16 := Fin.cast bound_one (L 1)
/-- The subcore's thread. -/
abbrev thr (d : Dev nD) (L : grid0.Coords) : Thread nD τ := V d (cV L) (jV L)

abbrev iLoc (d : Dev nD) : Loc nD τ sig := (SparseCore.T d).loc main_arg0
abbrev qLoc (d : Dev nD) : Loc nD τ sig := (SparseCore.T d).loc main_v0
abbrev tLoc (d : Dev nD) : Loc nD τ sig := (SparseCore.T d).loc main_v1
abbrev qoLoc (d : Dev nD) : Loc nD τ sig := (SparseCore.T d).loc main_v2_0
abbrev toLoc (d : Dev nD) : Loc nD τ sig := (SparseCore.T d).loc main_v2_1

/-- The cell all seven gathers credit. -/
abbrev gCell (d : Dev nD) (c : Fin τ.nSC) (i : Fin τ.nSub) : GSem nD τ sig := (V d c i, .dma cc0_scratch5.sem)
/-- The cells of the fetch and the two write-outs. -/
abbrev aCell (d : Dev nD) (c : Fin τ.nSC) (i : Fin τ.nSub) : GSem nD τ sig := (V d c i, .dma cc0_scoped0.sem)
abbrev bCell (d : Dev nD) (c : Fin τ.nSC) (i : Fin τ.nSub) : GSem nD τ sig := (V d c i, .dma cc0_scoped1.sem)
abbrev dCell (d : Dev nD) (c : Fin τ.nSC) (i : Fin τ.nSub) : GSem nD τ sig := (V d c i, .dma cc0_scoped2.sem)

/-! ## The blocks -/

/-- Block `2 * s + c` of a flat array cut into blocks of `B`. -/
def blk (n B : ℕ) (c : Fin 2) (s : Fin 16) : Finset (⟨1, ![n]⟩ : Shape).Idx := Finset.univ.filter fun x => (x 0).val / B = 2 * s.val + c.val
/-- The blocks of one SparseCore. -/
def coreBlk (n B : ℕ) (c : Fin 2) : Finset (⟨1, ![n]⟩ : Shape).Idx := Finset.univ.biUnion (blk n B c)

theorem mem_blk {n B : ℕ} {c : Fin 2} {s : Fin 16} {x : (⟨1, ![n]⟩ : Shape).Idx} : x ∈ blk n B c s ↔ (x 0).val / B = 2 * s.val + c.val := by
  unfold blk; rw [Finset.mem_filter]; exact and_iff_right (Finset.mem_univ x)
theorem mem_coreBlk {n B : ℕ} {c : Fin 2} {x : (⟨1, ![n]⟩ : Shape).Idx} : x ∈ coreBlk n B c ↔ ∃ s : Fin 16, (x 0).val / B = 2 * s.val + c.val := by
  unfold coreBlk; simp only [Finset.mem_biUnion, Finset.mem_univ, true_and, mem_blk]

theorem blk_disjoint (n B : ℕ) (c : Fin 2) : ∀ i ∈ (Finset.univ : Finset (Fin 16)), ∀ j ∈ (Finset.univ : Finset (Fin 16)), i ≠ j → Disjoint (blk n B c i) (blk n B c j) :=
  fun i _ j _ h => Finset.disjoint_left.mpr fun x hx hy => h (Fin.ext (by have h1 := mem_blk.mp hx; have h2 := mem_blk.mp hy; omega))
theorem coreBlk_disjoint (n B : ℕ) : ∀ i ∈ (Finset.univ : Finset (Fin 2)), ∀ j ∈ (Finset.univ : Finset (Fin 2)), i ≠ j → Disjoint (coreBlk n B i) (coreBlk n B j) :=
  fun i _ j _ h => Finset.disjoint_left.mpr fun x hx hy => h (Fin.ext (by
    obtain ⟨a, h1⟩ := mem_coreBlk.mp hx; obtain ⟨b, h2⟩ := mem_coreBlk.mp hy; have := i.isLt; have := j.isLt; omega))
theorem coreBlk_cover (n B : ℕ) (hB : 0 < B) (hn : n = 32 * B) : (Finset.univ : Finset (Fin 2)).biUnion (coreBlk n B) = Finset.univ := by
  refine Finset.eq_univ_of_forall fun x => Finset.mem_biUnion.mpr ?_
  have hx : (x 0).val < n := (x 0).isLt
  have hq : (x 0).val / B < 32 := by rw [Nat.div_lt_iff_lt_mul hB]; omega
  refine ⟨⟨(x 0).val / B % 2, Nat.mod_lt _ (by decide)⟩, Finset.mem_univ _, mem_coreBlk.mpr ⟨⟨(x 0).val / B / 2, by omega⟩, ?_⟩⟩
  change (x 0).val / B = 2 * ((x 0).val / B / 2) + (x 0).val / B % 2
  omega

/-- A buffer held outright is its 32 blocks held outright. -/
theorem pts_blocks {ℓ : Loc nD τ sig} (I : Fin 2 → Fin 16 → Finset (Idx ℓ))
    (h₁ : ∀ c, ∀ i ∈ (Finset.univ : Finset (Fin 16)), ∀ j ∈ (Finset.univ : Finset (Fin 16)), i ≠ j → Disjoint (I c i) (I c j))
    (h₂ : ∀ i ∈ (Finset.univ : Finset (Fin 2)), ∀ j ∈ (Finset.univ : Finset (Fin 2)), i ≠ j →
      Disjoint (Finset.univ.biUnion (I i)) (Finset.univ.biUnion (I j)))
    (h₃ : (Finset.univ : Finset (Fin 2)).biUnion (fun c => Finset.univ.biUnion (I c)) = Finset.univ) (f : Buf (Elt F) ℓ) :
    (ℓ ↦{fullShare} f : sProp 𝕄) = bigSep Finset.univ fun c : Fin 2 => bigSep Finset.univ fun s : Fin 16 => ℓ ↦[I c s]{fullShare} f := by
  rw [← bigSep_congr fun c _ => pointsTo_biUnion Finset.univ (ℓ := ℓ) (I c) (h₁ c),
    ← pointsTo_biUnion Finset.univ (ℓ := ℓ) (fun c => Finset.univ.biUnion (I c)) h₂, h₃]

/-- Subcore `s` of SparseCore `c`'s share of a table. -/
abbrev share (c : Fin 2) (s : Fin 16) : PosShare TreeShare := pieceOf (pieceOf fullShare 2 (by decide) c) 16 (by decide) s

/-- A buffer held outright is its 32 shares. -/
theorem pts_shares {ℓ : Loc nD τ sig} (f : Buf (Elt F) ℓ) :
    (ℓ ↦{fullShare} f : sProp 𝕄) = bigSep Finset.univ fun c : Fin 2 => bigSep Finset.univ fun s : Fin 16 => ℓ ↦{share c s} f := by
  rw [pointsTo_piecesOf Finset.univ f (show 0 < 2 by decide) fullShare]
  exact bigSep_congr fun c _ => pointsTo_piecesOf Finset.univ f (show 0 < 16 by decide) _

theorem iPts_blocks (d : Dev nD) (f : Buf (Elt F) (iLoc d)) :
    (iLoc d ↦{fullShare} f : sProp 𝕄) = bigSep Finset.univ fun c : Fin 2 => bigSep Finset.univ fun s : Fin 16 => iLoc d ↦[blk 4096 128 c s]{fullShare} f :=
  pts_blocks (ℓ := iLoc d) (blk 4096 128) (blk_disjoint 4096 128) (coreBlk_disjoint 4096 128) (coreBlk_cover 4096 128 (by decide) rfl) f
theorem qoPts_blocks (d : Dev nD) (f : Buf (Elt F) (qoLoc d)) :
    (qoLoc d ↦{fullShare} f : sProp 𝕄) = bigSep Finset.univ fun c : Fin 2 => bigSep Finset.univ fun s : Fin 16 => qoLoc d ↦[blk 16384 512 c s]{fullShare} f :=
  pts_blocks (ℓ := qoLoc d) (blk 16384 512) (blk_disjoint 16384 512) (coreBlk_disjoint 16384 512) (coreBlk_cover 16384 512 (by decide) rfl) f
theorem toPts_blocks (d : Dev nD) (f : Buf (Elt F) (toLoc d)) :
    (toLoc d ↦{fullShare} f : sProp 𝕄) = bigSep Finset.univ fun c : Fin 2 => bigSep Finset.univ fun s : Fin 16 => toLoc d ↦[blk 12288 384 c s]{fullShare} f :=
  pts_blocks (ℓ := toLoc d) (blk 12288 384) (blk_disjoint 12288 384) (coreBlk_disjoint 12288 384) (coreBlk_cover 12288 384 (by decide) rfl) f

/-! ## The blocks as the task addresses them -/

/-- The places of a unit-stride block of `B` from `B * (2 * s + c)`. -/
theorem unit_block (n B : ℕ) (hB : 0 < B) (c : Fin 2) (s : Fin 16) (off : Fin 1 → ℕ) (ho : off = ![B * (2 * s.val + c.val)])
    (inb : ∀ a, off a + (⟨1, ![B]⟩ : Shape).size a ≤ (⟨1, ![n]⟩ : Shape).size a) :
    (Rect.unit (s := (⟨1, ![n]⟩ : Shape)) off (⟨1, ![B]⟩ : Shape).size inb).set = blk n B c s := by
  subst ho
  ext x
  rw [Rect.mem_set_unit, mem_blk, Nat.div_eq_iff hB]
  constructor
  · intro h
    have h0 : B * (2 * s.val + c.val) ≤ (x 0).val ∧ (x 0).val < B * (2 * s.val + c.val) + B := h 0
    rw [Nat.mul_comm] at h0; omega
  · rintro ⟨h1, h2⟩ a
    match a with
    | 0 =>
      change B * (2 * s.val + c.val) ≤ (x 0).val ∧ (x 0).val < B * (2 * s.val + c.val) + B
      rw [Nat.mul_comm B]; omega

theorem set_idxRow (L : grid0.Coords) : (idxRow L).view.set = blk 4096 128 (cL L) (jL L) := by
  show ((View.whole (main_arg0_scv : Ref sig .scVector)).slice (Rect.unit (s := S4096) (k0_off1 L) S128.size (k0_off1_inb L))).set = _
  rw [View.set_slice]
  refine Finset.map_refl.trans (unit_block 4096 128 (by decide) (cL L) (jL L) (k0_off1 L) ?_ (k0_off1_inb L))
  rw [k0_off1_eq]; congr 1; change 256 * (L 1).val + 128 * (L 0).val = 128 * (2 * (L 1).val + (L 0).val); omega
theorem set_qoRow (L : grid0.Coords) : (qoRow L).view.set = blk 16384 512 (cL L) (jL L) := by
  show ((View.whole (main_v2_0_scv : Ref sig .scVector)).slice (Rect.unit (s := S16384) (k0_off2 L) S512.size (k0_off2_inb L))).set = _
  rw [View.set_slice]
  refine Finset.map_refl.trans (unit_block 16384 512 (by decide) (cL L) (jL L) (k0_off2 L) ?_ (k0_off2_inb L))
  rw [k0_off2_eq]; congr 1; change 1024 * (L 1).val + 512 * (L 0).val = 512 * (2 * (L 1).val + (L 0).val); omega
theorem set_toRow (L : grid0.Coords) : (toRow L).view.set = blk 12288 384 (cL L) (jL L) := by
  show ((View.whole (main_v2_1_scv : Ref sig .scVector)).slice (Rect.unit (s := S12288) (k0_off3 L) S384.size (k0_off3_inb L))).set = _
  rw [View.set_slice]
  refine Finset.map_refl.trans (unit_block 12288 384 (by decide) (cL L) (jL L) (k0_off3 L) ?_ (k0_off3_inb L))
  rw [k0_off3_eq]; congr 1; change 768 * (L 1).val + 384 * (L 0).val = 384 * (2 * (L 1).val + (L 0).val); omega

variable (d : Dev nD) (L : grid0.Coords)

theorem pts_idxRow (f : Buf (Elt F) (iLoc d)) :
    ((idxRow L).view.loc (thr d L) ↦[(idxRow L).view.set]{fullShare} f : sProp 𝕄) = iLoc d ↦[blk 4096 128 (cL L) (jL L)]{fullShare} f := by
  rw [set_idxRow]
theorem pts_qoRow (f : Buf (Elt F) (qoLoc d)) :
    ((qoRow L).view.loc (thr d L) ↦[(qoRow L).view.set]{fullShare} f : sProp 𝕄) = qoLoc d ↦[blk 16384 512 (cL L) (jL L)]{fullShare} f := by
  rw [set_qoRow]
theorem pts_toRow (f : Buf (Elt F) (toLoc d)) :
    ((toRow L).view.loc (thr d L) ↦[(toRow L).view.set]{fullShare} f : sProp 𝕄) = toLoc d ↦[blk 12288 384 (cL L) (jL L)]{fullShare} f := by
  rw [set_toRow]

/-- A table's places, as a gather names it, are all of them. -/
theorem set_qAll : (qAll).view.set = Finset.univ := by
  show ((View.whole (main_v0_scv : Ref sig .scVector)).slice (Rect.unit (s := S400000) ![0] S400000.size inb_S400000_S400000_0)).set = _
  rw [View.set_slice]
  refine Finset.map_refl.trans (Finset.eq_univ_of_forall fun x => Rect.mem_set_unit.mpr fun a => ?_)
  match a with
  | 0 => exact ⟨Nat.zero_le _, by have := (x 0).isLt; change (x 0).val < 0 + 400000; rw [Nat.zero_add]; exact this⟩
theorem set_tAll : (tAll).view.set = Finset.univ := by
  show ((View.whole (main_v1_scv : Ref sig .scVector)).slice (Rect.unit (s := S300000) ![0] S300000.size inb_S300000_S300000_0)).set = _
  rw [View.set_slice]
  refine Finset.map_refl.trans (Finset.eq_univ_of_forall fun x => Rect.mem_set_unit.mpr fun a => ?_)
  match a with
  | 0 => exact ⟨Nat.zero_le _, by have := (x 0).isLt; change (x 0).val < 0 + 300000; rw [Nat.zero_add]; exact this⟩

theorem pts_qAll (q : PosShare TreeShare) (f : Buf (Elt F) (qLoc d)) :
    ((qAll).view.loc (thr d L) ↦[(qAll).view.set]{q} f : sProp 𝕄) = qLoc d ↦{q} f := by
  rw [set_qAll]
theorem pts_tAll (q : PosShare TreeShare) (f : Buf (Elt F) (tLoc d)) :
    ((tAll).view.loc (thr d L) ↦[(tAll).view.set]{q} f : sProp 𝕄) = tLoc d ↦{q} f := by
  rw [set_tAll]

/-! ## The subcore's own cells and buffers -/

theorem ownSems0_V :
    (ownSems0 (thr d L) : sProp 𝕄)
      = iprop(semVal (gCell d (cV L) (jV L)) 0 ∗ semVal (aCell d (cV L) (jV L)) 0 ∗ semVal (bCell d (cV L) (jV L)) 0 ∗ semVal (dCell d (cV L) (jV L)) 0
          ∗ bigSep (((((ownCells (thr d L)).erase (gCell d (cV L) (jV L))).erase (aCell d (cV L) (jV L))).erase (bCell d (cV L) (jV L))).erase (dCell d (cV L) (jV L))) fun g => semVal g 0) := by
  unfold SparseCore.Cfg.ownSems0
  have hg : gCell d (cV L) (jV L) ∈ ownCells (thr d L) := mem_ownCells.mpr ⟨rfl, by show (SemLoc.dma cc0_scratch5.sem : SemLoc sig).isScoped .scVector = true; decide⟩
  have ha : aCell d (cV L) (jV L) ∈ ownCells (thr d L) := mem_ownCells.mpr ⟨rfl, by show (SemLoc.dma cc0_scoped0.sem : SemLoc sig).isScoped .scVector = true; decide⟩
  have hb : bCell d (cV L) (jV L) ∈ ownCells (thr d L) := mem_ownCells.mpr ⟨rfl, by show (SemLoc.dma cc0_scoped1.sem : SemLoc sig).isScoped .scVector = true; decide⟩
  have hd : dCell d (cV L) (jV L) ∈ ownCells (thr d L) := mem_ownCells.mpr ⟨rfl, by show (SemLoc.dma cc0_scoped2.sem : SemLoc sig).isScoped .scVector = true; decide⟩
  have cell_ne : ∀ s s' : SemLoc sig, s ≠ s' → ((thr d L, s) : GSem nD τ sig) ≠ (thr d L, s') := fun _ _ h e => h (congrArg Prod.snd e)
  have hag := cell_ne (.dma cc0_scoped0.sem) (.dma cc0_scratch5.sem) (by decide)
  have hbg := cell_ne (.dma cc0_scoped1.sem) (.dma cc0_scratch5.sem) (by decide)
  have hba := cell_ne (.dma cc0_scoped1.sem) (.dma cc0_scoped0.sem) (by decide)
  have hdg := cell_ne (.dma cc0_scoped2.sem) (.dma cc0_scratch5.sem) (by decide)
  have hda := cell_ne (.dma cc0_scoped2.sem) (.dma cc0_scoped0.sem) (by decide)
  have hdb := cell_ne (.dma cc0_scoped2.sem) (.dma cc0_scoped1.sem) (by decide)
  rw [SparseCore.bigSep_erase' hg, SparseCore.bigSep_erase' (Finset.mem_erase.mpr ⟨hag, ha⟩),
    SparseCore.bigSep_erase' (Finset.mem_erase.mpr ⟨hba, Finset.mem_erase.mpr ⟨hbg, hb⟩⟩),
    SparseCore.bigSep_erase' (Finset.mem_erase.mpr ⟨hdb, Finset.mem_erase.mpr ⟨hda, Finset.mem_erase.mpr ⟨hdg, hd⟩⟩⟩)]

/-- One of the subcore's buffers, by the subcore's name for it. -/
abbrev own (L : grid0.Coords) (b : Ref sig .scVector) : DevRef τ sig := (Proc.scVector (cV L) (jV L)).devRef b

theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f)
          ∗ (∃ f, (thr d L).loc cc0_scratch3 ↦{fullShare} f) ∗ (∃ f, (thr d L).loc cc0_scratch4 ↦{fullShare} f)
          ∗ bigSep ((((((ownRefs (τ := τ) (.scVector (cV L) (jV L))).erase (own L cc0_scratch0)).erase (own L cc0_scratch1)).erase (own L cc0_scratch2)).erase
              (own L cc0_scratch3)).erase (own L cc0_scratch4))
              fun b => iprop(∃ f, ((d, b) : Loc nD τ sig) ↦{fullShare} f)) := by
  unfold SparseCore.Cfg.ownBufs
  have ne : ∀ b b' : Ref sig .scVector, b ≠ b' → own L b ≠ own L b' := fun _ _ h e => h (Proc.devRef_injective _ e)
  have mem : ∀ b : Ref sig .scVector, (own L b).owner = (own L cc0_scratch0).owner → own L b ∈ ownRefs (τ := τ) (.scVector (cV L) (jV L)) :=
    fun b h => SparseCore.Cfg.mem_ownRefs_of_owner (p := Proc.scVector (cV L) (jV L)) (b := own L b) (h.trans rfl)
  have m0 := mem cc0_scratch0 rfl
  have m1 := Finset.mem_erase.mpr ⟨ne cc0_scratch1 cc0_scratch0 (by decide), mem cc0_scratch1 rfl⟩
  have m2 := Finset.mem_erase.mpr ⟨ne cc0_scratch2 cc0_scratch1 (by decide), Finset.mem_erase.mpr ⟨ne cc0_scratch2 cc0_scratch0 (by decide), mem cc0_scratch2 rfl⟩⟩
  have m3 := Finset.mem_erase.mpr ⟨ne cc0_scratch3 cc0_scratch2 (by decide), Finset.mem_erase.mpr ⟨ne cc0_scratch3 cc0_scratch1 (by decide),
    Finset.mem_erase.mpr ⟨ne cc0_scratch3 cc0_scratch0 (by decide), mem cc0_scratch3 rfl⟩⟩⟩
  have m4 := Finset.mem_erase.mpr ⟨ne cc0_scratch4 cc0_scratch3 (by decide), Finset.mem_erase.mpr ⟨ne cc0_scratch4 cc0_scratch2 (by decide),
    Finset.mem_erase.mpr ⟨ne cc0_scratch4 cc0_scratch1 (by decide), Finset.mem_erase.mpr ⟨ne cc0_scratch4 cc0_scratch0 (by decide), mem cc0_scratch4 rfl⟩⟩⟩⟩
  refine (SparseCore.bigSep_erase' m0).trans ?_
  rw [SparseCore.bigSep_erase' m1, SparseCore.bigSep_erase' m2, SparseCore.bigSep_erase' m3, SparseCore.bigSep_erase' m4]

end Cert.KernelIdeal.Gather

end
-- ==== Proof.IdealLists.lean ====
/-
  The two index lists, filled. One chunk's step (`wp_qChunk`, `wp_tChunk`): its check passes, its lanes' row numbers are
  read, its sixteen words stored. All the chunks (`wp_qChunks`, `wp_tChunks`): the list holds its words throughout.
-/
module

public import proofs.«01_k».proof.Proof.IdealSetup

@[expose] public section

noncomputable section

namespace Cert.KernelIdeal.Gather

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- A repeated step: if `g k p` runs from `Inv k` whenever `p` runs from `Inv (k + 1)`, then the chain runs from
    `Inv 0` whenever what follows it runs from `Inv n`. -/
theorem chain_rule {P : Type 1} {R : Type} (ok : R → P → Prop) (Inv : ℕ → R) :
    ∀ (n : ℕ) (g : Fin n → P → P) (_ : ∀ (k : Fin n) (p : P), ok (Inv (k.val + 1)) p → ok (Inv k.val) (g k p))
      (p : P), ok (Inv n) p → ok (Inv 0) (chain n g p)
  | 0, _, _, _, hp => hp
  | n + 1, g, hg, p, hp => chain_rule ok Inv n (fun k => g k.castSucc) (fun k q hq => hg k.castSucc q hq) _ (hg (Fin.last n) p hp)

variable (d : Dev nD) (L : grid0.Coords) (Q : PUnit → sProp (MT nD τ sig (HIx 1) (Elt F) ℕ UU ℕ))

/-- The subcore runs program `p` from `H` and ends at `Q`. -/
abbrev Runs (H : sProp (MT nD τ sig (HIx 1) (Elt F) ℕ UU ℕ)) (p : TileProg F L) : Prop :=
  H ⊢ wp frame (wpE (defs₀ (F := F)) 𝒱₀ (thr d L) none) Set.univ p Q

/-- The row numbers, fetched. -/
abbrev ivPts (v : S128.Idx → BitVec 32) : sProp 𝕄 := (ivM).view.loc (thr d L) ↦{fullShare} v
/-- The first list at contents `g`. -/
abbrev qiPts (g : S512.Idx → BitVec 32) : sProp 𝕄 := (qiM).view.loc (thr d L) ↦{fullShare} g
/-- The second list at contents `g`. -/
abbrev tiPts (g : S384.Idx → BitVec 32) : sProp 𝕄 := (tiM).view.loc (thr d L) ↦{fullShare} g

variable (v : S128.Idx → BitVec 32) (H : sProp (MT nD τ sig (HIx 1) (Elt F) ℕ UU ℕ))

/-- Before chunk `k` of the first list: its first `16 * k` words are in place. -/
def qFill (k : ℕ) : sProp 𝕄 := iprop((∃ g, ⌜qDone v (16 * k) g⌝ ∗ qiPts d L g) ∗ ivPts d L v ∗ H)
/-- Before chunk `k` of the second list: its first `16 * k` words are in place. -/
def tFill (k : ℕ) : sProp 𝕄 := iprop((∃ g, ⌜tDone v (16 * k) g⌝ ∗ tiPts d L g) ∗ ivPts d L v ∗ H)

theorem wp_qChunk (k : Fin 32) (p : TileProg F L) (hp : Runs d L Q (qFill d L v H (k.val + 1)) p) :
    Runs d L Q (qFill d L v H k.val) (qChunk L k p) := by
  unfold qChunk Runs
  rw [wp_assume_of _ _ _ _ (qEntry_chk k)]
  unfold qFill
  iintro ⟨⟨%g, %hg, Hq⟩, Hi, HH⟩
  iapply (SparseCore.wp_vectorLoadIdx 𝒱₀ (thr d L) none Set.univ (base := ivM) (S := Finset.univ) (q := fullShare) (Finset.subset_univ _)) $$ Hi; iintro Hi
  iapply (wp_load 𝒱₀ (thr d L) none Set.univ (m := qiM) (S := Finset.univ) (Finset.subset_univ _)) $$ Hq; iintro Hq
  iapply (wp_store 𝒱₀ (thr d L) none Set.univ (m := qiM) (r := qRect k) (Mk := Finset.univ) (S := Finset.univ) (Finset.subset_univ _)) $$ Hq; iintro Hq
  iapply hp
  unfold qFill
  isplitl [Hq]
  · iexists _
    isplitr
    swap; · iexact Hq
    ipureintro
    refine qDone_step v k g _ (fun j => ?_) hg
    rw [show View.read (Elt F) ((ivM).access (Rect.whole S128)) v = v from
      Memref.read_access_whole (Elt F) cc0_scratch0 v]
    exact qWords_apply (F := F) k v _ j
  isplitl [Hi]; · iexact Hi
  iexact HH

theorem wp_tChunk (k : Fin 24) (p : TileProg F L) (hp : Runs d L Q (tFill d L v H (k.val + 1)) p) :
    Runs d L Q (tFill d L v H k.val) (tChunk L k p) := by
  unfold tChunk Runs
  rw [wp_assume_of _ _ _ _ (tEntry_chk k)]
  unfold tFill
  iintro ⟨⟨%g, %hg, Hq⟩, Hi, HH⟩
  iapply (SparseCore.wp_vectorLoadIdx 𝒱₀ (thr d L) none Set.univ (base := ivM) (S := Finset.univ) (q := fullShare) (Finset.subset_univ _)) $$ Hi; iintro Hi
  iapply (wp_load 𝒱₀ (thr d L) none Set.univ (m := tiM) (S := Finset.univ) (Finset.subset_univ _)) $$ Hq; iintro Hq
  iapply (wp_store 𝒱₀ (thr d L) none Set.univ (m := tiM) (r := tRect k) (Mk := Finset.univ) (S := Finset.univ) (Finset.subset_univ _)) $$ Hq; iintro Hq
  iapply hp
  unfold tFill
  isplitl [Hq]
  · iexists _
    isplitr
    swap; · iexact Hq
    ipureintro
    refine tDone_step v k g _ (fun j => ?_) hg
    rw [show View.read (Elt F) ((ivM).access (Rect.whole S128)) v = v from
      Memref.read_access_whole (Elt F) cc0_scratch0 v]
    exact tWords_apply (F := F) k v _ j
  isplitl [Hi]; · iexact Hi
  iexact HH

/-- All 32 chunks: the first list holds its 512 words. -/
theorem wp_qChunks (p : TileProg F L) (g : S512.Idx → BitVec 32)
    (hp : Runs d L Q iprop(qiPts d L (qWord v) ∗ ivPts d L v ∗ H) p) :
    Runs d L Q iprop(qiPts d L g ∗ ivPts d L v ∗ H) (chain 32 (qChunk L) p) := by
  have hc := chain_rule (fun H p => Runs d L Q H p) (qFill d L v H) 32 (qChunk L) (wp_qChunk d L Q v H) p ((show qFill d L v H 32 ⊢ iprop(qiPts d L (qWord v) ∗ ivPts d L v ∗ H) by
    unfold qFill
    iintro ⟨⟨%g', %hg, Hq⟩, Hi, HH⟩
    obtain rfl : g' = qWord v := funext fun x => hg x (x 0).isLt
    isplitl [Hq]; · iexact Hq
    isplitl [Hi]; · iexact Hi
    iexact HH).trans hp)
  refine (show iprop(qiPts d L g ∗ ivPts d L v ∗ H) ⊢ qFill d L v H 0 from ?_).trans hc
  unfold qFill
  iintro ⟨Hq, Hi, HH⟩
  isplitl [Hq]
  · iexists g
    isplitr; · ipureintro; exact fun x hx => absurd hx (Nat.not_lt_zero _)
    iexact Hq
  isplitl [Hi]; · iexact Hi
  iexact HH

/-- All 24 chunks: the second list holds its 384 words. -/
theorem wp_tChunks (p : TileProg F L) (g : S384.Idx → BitVec 32)
    (hp : Runs d L Q iprop(tiPts d L (tWord v) ∗ ivPts d L v ∗ H) p) :
    Runs d L Q iprop(tiPts d L g ∗ ivPts d L v ∗ H) (chain 24 (tChunk L) p) := by
  have hc := chain_rule (fun H p => Runs d L Q H p) (tFill d L v H) 24 (tChunk L) (wp_tChunk d L Q v H) p ((show tFill d L v H 24 ⊢ iprop(tiPts d L (tWord v) ∗ ivPts d L v ∗ H) by
    unfold tFill
    iintro ⟨⟨%g', %hg, Hq⟩, Hi, HH⟩
    obtain rfl : g' = tWord v := funext fun x => hg x (x 0).isLt
    isplitl [Hq]; · iexact Hq
    isplitl [Hi]; · iexact Hi
    iexact HH).trans hp)
  refine (show iprop(tiPts d L g ∗ ivPts d L v ∗ H) ⊢ tFill d L v H 0 from ?_).trans hc
  unfold tFill
  iintro ⟨Hq, Hi, HH⟩
  isplitl [Hq]
  · iexists g
    isplitr; · ipureintro; exact fun x hx => absurd hx (Nat.not_lt_zero _)
    iexact Hq
  isplitl [Hi]; · iexact Hi
  iexact HH

end Cert.KernelIdeal.Gather

end
-- ==== Proof.IdealParts.lean ====
/-
  The seven gathers' parts. The first table's 512 elements come in four parts of 128, the second's 384 in three; the lists
  are cut alike. What a part's gather leaves in it is, place by place, the element of the flat table that the list names
  (`qVal`, `tVal`).
-/
module

public import proofs.«01_k».proof.Proof.IdealSetup

@[expose] public section

noncomputable section

namespace Cert.KernelIdeal.Gather

open Cert.KernelIdeal Cert.KernelIdeal.Gen
open Idealize.ShloMosaic
open Idealize.ShloMosaic.SparseCore (S V T rows gatherPayload)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The parts -/

/-- Part `k` of a flat array cut into parts of 128. -/
def part (n k : ℕ) : Finset (⟨1, ![n]⟩ : Shape).Idx := Finset.univ.filter fun x => (x 0).val / 128 = k

theorem mem_part {n k : ℕ} {x : (⟨1, ![n]⟩ : Shape).Idx} : x ∈ part n k ↔ (x 0).val / 128 = k := by
  unfold part; rw [Finset.mem_filter]; exact and_iff_right (Finset.mem_univ x)

theorem unit_part (n k : ℕ) (inb : ∀ a, (![128 * k] : Fin 1 → ℕ) a + S128.size a ≤ (⟨1, ![n]⟩ : Shape).size a) :
    (Rect.unit (s := (⟨1, ![n]⟩ : Shape)) ![128 * k] S128.size inb).set = part n k := by
  ext x
  rw [Rect.mem_set_unit, mem_part]
  constructor
  · intro h
    have h0 : 128 * k ≤ (x 0).val ∧ (x 0).val < 128 * k + 128 := h 0
    omega
  · intro h a
    match a with
    | 0 =>
      change 128 * k ≤ (x 0).val ∧ (x 0).val < 128 * k + 128
      omega

theorem part_disjoint (n p : ℕ) : ∀ i ∈ (Finset.univ : Finset (Fin p)), ∀ j ∈ (Finset.univ : Finset (Fin p)), i ≠ j → Disjoint (part n i) (part n j) :=
  fun i _ j _ h => Finset.disjoint_left.mpr fun x hx hy => h (Fin.ext ((mem_part.mp hx).symm.trans (mem_part.mp hy)))
theorem part_cover (n p : ℕ) (hn : n = 128 * p) : (Finset.univ : Finset (Fin p)).biUnion (fun k => part n k) = Finset.univ := by
  refine Finset.eq_univ_of_forall fun x => Finset.mem_biUnion.mpr ?_
  have hx : (x 0).val < n := (x 0).isLt
  exact ⟨⟨(x 0).val / 128, by omega⟩, Finset.mem_univ _, mem_part.mpr rfl⟩

theorem set_qDst (k : Fin 4) : (qDst k).view.set = part 512 k := (View.set_slice_whole _ _).trans (unit_part 512 k (qPart_inb k))
theorem set_qOff (k : Fin 4) : (qOff k).view.set = part 512 k := (View.set_slice_whole _ _).trans (unit_part 512 k (qPart_inb k))
theorem set_tDst (k : Fin 3) : (tDst k).view.set = part 384 k := (View.set_slice_whole _ _).trans (unit_part 384 k (tPart_inb k))
theorem set_tOff (k : Fin 3) : (tOff k).view.set = part 384 k := (View.set_slice_whole _ _).trans (unit_part 384 k (tPart_inb k))

variable (d : Dev nD) (L : grid0.Coords)

/-- A buffer held outright is its parts held outright. -/
theorem pts_parts {ℓ : Loc nD τ sig} {p : ℕ} (I : Fin p → Finset (Idx ℓ))
    (h₁ : ∀ i ∈ (Finset.univ : Finset (Fin p)), ∀ j ∈ (Finset.univ : Finset (Fin p)), i ≠ j → Disjoint (I i) (I j))
    (h₂ : (Finset.univ : Finset (Fin p)).biUnion I = Finset.univ) (f : Buf (Elt F) ℓ) :
    (ℓ ↦{fullShare} f : sProp 𝕄) = bigSep Finset.univ fun k : Fin p => ℓ ↦[I k]{fullShare} f := by
  rw [← pointsTo_biUnion Finset.univ (ℓ := ℓ) I h₁, h₂]

theorem qr_parts (f : S512.Idx → Elt F .f32) :
    ((qrM).view.loc (thr d L) ↦{fullShare} f : sProp 𝕄)
      = bigSep Finset.univ fun k : Fin 4 => (qDst k).view.loc (thr d L) ↦[(qDst k).view.set]{fullShare} f := by
  refine (pts_parts (ℓ := (qrM).view.loc (thr d L)) (fun k : Fin 4 => part 512 k) (part_disjoint 512 4) (part_cover 512 4 rfl) f).trans
    (bigSep_congr fun k _ => ?_)
  rw [set_qDst]
theorem qi_parts (f : S512.Idx → BitVec 32) :
    ((qiM).view.loc (thr d L) ↦{fullShare} f : sProp 𝕄)
      = bigSep Finset.univ fun k : Fin 4 => (qOff k).view.loc (thr d L) ↦[(qOff k).view.set]{fullShare} f := by
  refine (pts_parts (ℓ := (qiM).view.loc (thr d L)) (fun k : Fin 4 => part 512 k) (part_disjoint 512 4) (part_cover 512 4 rfl) f).trans
    (bigSep_congr fun k _ => ?_)
  rw [set_qOff]
theorem tr_parts (f : S384.Idx → Elt F .f32) :
    ((trM).view.loc (thr d L) ↦{fullShare} f : sProp 𝕄)
      = bigSep Finset.univ fun k : Fin 3 => (tDst k).view.loc (thr d L) ↦[(tDst k).view.set]{fullShare} f := by
  refine (pts_parts (ℓ := (trM).view.loc (thr d L)) (fun k : Fin 3 => part 384 k) (part_disjoint 384 3) (part_cover 384 3 rfl) f).trans
    (bigSep_congr fun k _ => ?_)
  rw [set_tDst]
theorem ti_parts (f : S384.Idx → BitVec 32) :
    ((tiM).view.loc (thr d L) ↦{fullShare} f : sProp 𝕄)
      = bigSep Finset.univ fun k : Fin 3 => (tOff k).view.loc (thr d L) ↦[(tOff k).view.set]{fullShare} f := by
  refine (pts_parts (ℓ := (tiM).view.loc (thr d L)) (fun k : Fin 3 => part 384 k) (part_disjoint 384 3) (part_cover 384 3 rfl) f).trans
    (bigSep_congr fun k _ => ?_)
  rw [set_tOff]

/-- A gather's share of the first table. -/
abbrev qPiece (q : PosShare TreeShare) (k : Fin 4) : PosShare TreeShare := pieceOf q 4 (by decide) k
/-- A gather's share of the second table. -/
abbrev tPiece (q : PosShare TreeShare) (k : Fin 3) : PosShare TreeShare := pieceOf q 3 (by decide) k

theorem q_pieces (q : PosShare TreeShare) (X : Buf (Elt F) (qLoc d)) :
    (qLoc d ↦{q} X : sProp 𝕄) = bigSep Finset.univ fun k : Fin 4 => (qAll).view.loc (thr d L) ↦[(qAll).view.set]{qPiece q k} X := by
  rw [set_qAll]; exact pointsTo_piecesOf Finset.univ X (by decide) q
theorem t_pieces (q : PosShare TreeShare) (Y : Buf (Elt F) (tLoc d)) :
    (tLoc d ↦{q} Y : sProp 𝕄) = bigSep Finset.univ fun k : Fin 3 => (tAll).view.loc (thr d L) ↦[(tAll).view.set]{tPiece q k} Y := by
  rw [set_tAll]; exact pointsTo_piecesOf Finset.univ Y (by decide) q

/-! ## What the gathers bring -/

/-- Place `k` of the first table, flat. -/
def i400000 (k : ℕ) : S400000.Idx := fun | 0 => ⟨k % 400000, Nat.mod_lt _ (by decide)⟩
/-- Place `k` of the second table, flat. -/
def i300000 (k : ℕ) : S300000.Idx := fun | 0 => ⟨k % 300000, Nat.mod_lt _ (by decide)⟩

/-- The elements of the first table that the first list names. -/
def qVal (v : S128.Idx → BitVec 32) (X : S400000.Idx → Elt F .f32) : S512.Idx → Elt F .f32 := fun x => X (i400000 (qWord v x).toNat)
/-- The elements of the second table that the second list names. -/
def tVal (v : S128.Idx → BitVec 32) (Y : S300000.Idx → Elt F .f32) : S384.Idx → Elt F .f32 := fun x => Y (i300000 (tWord v x).toNat)

variable (v : S128.Idx → BitVec 32)

theorem q_in (hv : ∀ j, (v j).toNat < 100000) (k : Fin 4) (x : S128.Idx) :
    ((qOff k).view.read (Elt F) (qWord v) x).toNat < S400000.size gathers_S400000_S128.axis := qWord_lt v hv ((qOff k).view.emb x)
theorem t_in (hv : ∀ j, (v j).toNat < 100000) (k : Fin 3) (x : S128.Idx) :
    ((tOff k).view.read (Elt F) (tWord v) x).toNat < S300000.size gathers_S300000_S128.axis := tWord_lt v hv ((tOff k).view.emb x)

/-- In a flat array the `k`-th entry is at place `k`. -/
theorem entry_val (k : Fin S128.numel) : (S128.rowMajor.symm k 0).val = k.val := by
  have h := Shape.rowMajor_val_one (d := ![128]) (S128.rowMajor.symm k)
  rw [show (⟨1, ![128]⟩ : Shape).rowMajor (S128.rowMajor.symm k) = k from S128.rowMajor.apply_symm_apply k] at h
  exact h.symm

theorem q_written (hv : ∀ j, (v j).toNat < 100000) (X : S400000.Idx → Elt F .f32) (fr : S512.Idx → Elt F .f32) (k : Fin 4) :
    ∀ x ∈ (qDst k).view.set, (qDst k).view.write (Elt F) fr
      (gatherPayload gathers_S400000_S128 ((qAll).view.read (Elt F) X) (rows ((qOff k).view.read (Elt F) (qWord v)) rfl (q_in v hv k))) Finset.univ x
        = qVal v X x := by
  intro x hx
  obtain ⟨y, -, rfl⟩ := Finset.mem_map.mp hx
  refine (View.write_emb_of_mem (v := (qDst k).view) (Val := Elt F) _ _ (Finset.mem_univ y)).trans ?_
  let R : Fin (S128.size gathers_S400000_S128.axis') → Fin (S400000.size gathers_S400000_S128.axis) :=
    rows ((qOff k).view.read (Elt F) (qWord v)) rfl (q_in v hv k)
  change X ((qAll).view.emb (gathers_S400000_S128.idx R y)) = X (i400000 (qWord v ((qDst k).view.emb y)).toNat)
  congr 1
  funext a
  match a with
  | 0 =>
    apply Fin.ext
    have h1 : (gathers_S400000_S128.idx R y 0).val = (qWord v ((qDst k).view.emb y)).toNat := by
      refine (congrArg Fin.val (Shape.Gathers.idx_axis gathers_S400000_S128 R y)).trans ?_
      change (qWord v ((qOff k).view.emb (S128.rowMajor.symm _))).toNat = _
      congr 2
      change (qOff k).view.emb _ = (qOff k).view.emb y
      congr 1
      funext b
      match b with
      | 0 => exact Fin.ext (entry_val _)
    change 0 + 1 * (gathers_S400000_S128.idx R y 0).val = (qWord v ((qDst k).view.emb y)).toNat % 400000
    rw [h1, Nat.mod_eq_of_lt (qWord_lt v hv _)]; omega

theorem t_written (hv : ∀ j, (v j).toNat < 100000) (Y : S300000.Idx → Elt F .f32) (ft : S384.Idx → Elt F .f32) (k : Fin 3) :
    ∀ x ∈ (tDst k).view.set, (tDst k).view.write (Elt F) ft
      (gatherPayload gathers_S300000_S128 ((tAll).view.read (Elt F) Y) (rows ((tOff k).view.read (Elt F) (tWord v)) rfl (t_in v hv k))) Finset.univ x
        = tVal v Y x := by
  intro x hx
  obtain ⟨y, -, rfl⟩ := Finset.mem_map.mp hx
  refine (View.write_emb_of_mem (v := (tDst k).view) (Val := Elt F) _ _ (Finset.mem_univ y)).trans ?_
  let R : Fin (S128.size gathers_S300000_S128.axis') → Fin (S300000.size gathers_S300000_S128.axis) :=
    rows ((tOff k).view.read (Elt F) (tWord v)) rfl (t_in v hv k)
  change Y ((tAll).view.emb (gathers_S300000_S128.idx R y)) = Y (i300000 (tWord v ((tDst k).view.emb y)).toNat)
  congr 1
  funext a
  match a with
  | 0 =>
    apply Fin.ext
    have h1 : (gathers_S300000_S128.idx R y 0).val = (tWord v ((tDst k).view.emb y)).toNat := by
      refine (congrArg Fin.val (Shape.Gathers.idx_axis gathers_S300000_S128 R y)).trans ?_
      change (tWord v ((tOff k).view.emb (S128.rowMajor.symm _))).toNat = _
      congr 2
      change (tOff k).view.emb _ = (tOff k).view.emb y
      congr 1
      funext b
      match b with
      | 0 => exact Fin.ext (entry_val _)
    change 0 + 1 * (gathers_S300000_S128.idx R y 0).val = (tWord v ((tDst k).view.emb y)).toNat % 300000
    rw [h1, Nat.mod_eq_of_lt (tWord_lt v hv _)]; omega

end Cert.KernelIdeal.Gather

end
-- ==== Proof.IdealGathers.lean ====
/-
  The seven gathers, in flight together on one DMA semaphore: 896 row transfers of one element each, numbers 0 to 511 the
  first table's and 512 to 895 the second's. They are one batch. Each gather is issued against it (`wp_qIssues`,
  `wp_tIssues`), seven waits take all its credits (`wp_qWaits`, `wp_tWaits`), and what the rows deliver joins to the two
  destinations with their elements in place (`deliveries_join`).
-/
module

public import proofs.«01_k».proof.Proof.IdealLists
public import proofs.«01_k».proof.Proof.IdealParts

@[expose] public section

noncomputable section

namespace Cert.KernelIdeal.Gather

open Cert.KernelIdeal Cert.KernelIdeal.Gen Cert.Streams
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords) (Q : PUnit → sProp (MT nD τ sig (HIx 1) (Elt F) ℕ UU ℕ))
variable (v : S128.Idx → BitVec 32) (hv : ∀ j, (v j).toNat < 100000) (q : PosShare TreeShare)
variable (X : S400000.Idx → Elt F .f32) (Y : S300000.Idx → Elt F .f32) (fr : S512.Idx → Elt F .f32) (ft : S384.Idx → Elt F .f32)
variable (H : sProp (MT nD τ sig (HIx 1) (Elt F) ℕ UU ℕ))

/-! ## The deliveries -/

/-- What row `i` of gather `k` of the first table delivers. -/
def qRow (k : Fin 4) (i : Fin 128) : sProp 𝕄 :=
  rowDelivery (thr d L) qAll (qDst k) gathers_S400000_S128 (qOff k) rfl (by decide) (qPiece q k) fullShare X fr (qWord v) (q_in v hv k) i
/-- What row `i` of gather `k` of the second table delivers. -/
def tRow (k : Fin 3) (i : Fin 128) : sProp 𝕄 :=
  rowDelivery (thr d L) tAll (tDst k) gathers_S300000_S128 (tOff k) rfl (by decide) (tPiece q k) fullShare Y ft (tWord v) (t_in v hv k) i

/-- What transfer `t` of the batch delivers. -/
def delivery (t : Fin 896) : sProp 𝕄 :=
  if h : t.val < 512 then qRow d L v hv q X fr ⟨t.val / 128, by omega⟩ ⟨t.val % 128, by omega⟩
  else tRow d L v hv q Y ft ⟨(t.val - 512) / 128, by have := t.isLt; omega⟩ ⟨(t.val - 512) % 128, by omega⟩

instance delivery_storable (t : Fin 896) : BI.Storable (upEmb : UEmb _ 𝕄) (delivery d L v hv q X Y fr ft t) := by
  unfold delivery
  split
  · exact rowDelivery_storable ..
  · exact rowDelivery_storable ..

theorem delivery_q (k : Fin 4) (i : Fin 128) (h : 128 * k.val + i.val < 896) :
    delivery d L v hv q X Y fr ft ⟨128 * k.val + i.val, h⟩ = qRow d L v hv q X fr k i := by
  have hk := k.isLt
  have hi := i.isLt
  unfold delivery
  rw [dif_pos (show 128 * k.val + i.val < 512 by omega)]
  congr 1
  · exact Fin.ext (show (128 * k.val + i.val) / 128 = k.val by omega)
  · exact Fin.ext (show (128 * k.val + i.val) % 128 = i.val by omega)
theorem delivery_t (k : Fin 3) (i : Fin 128) (h : 512 + 128 * k.val + i.val < 896) :
    delivery d L v hv q X Y fr ft ⟨512 + 128 * k.val + i.val, h⟩ = tRow d L v hv q Y ft k i := by
  have hk := k.isLt
  have hi := i.isLt
  unfold delivery
  rw [dif_neg (show ¬ 512 + 128 * k.val + i.val < 512 by omega)]
  congr 1
  · exact Fin.ext (show (512 + 128 * k.val + i.val - 512) / 128 = k.val by omega)
  · exact Fin.ext (show (512 + 128 * k.val + i.val - 512) % 128 = i.val by omega)

/-- What one row credits the semaphore. -/
def rowCredit : ℕ := 32

theorem rowCredit_q (k : Fin 4) (i : Fin (S128.size gathers_S400000_S128.axis')) :
    ((qDst k).slice (S128.rowRect gathers_S400000_S128.axis' i) (S128.stride_rowRect gathers_S400000_S128.axis' i)).view.dmaCredit = rowCredit := by
  change RefSig.bitCredit (S128.rowShape gathers_S400000_S128.axis') .f32 = 32; decide
theorem rowCredit_t (k : Fin 3) (i : Fin (S128.size gathers_S300000_S128.axis')) :
    ((tDst k).slice (S128.rowRect gathers_S300000_S128.axis' i) (S128.stride_rowRect gathers_S300000_S128.axis' i)).view.dmaCredit = rowCredit := by
  change RefSig.bitCredit (S128.rowShape gathers_S300000_S128.axis') .f32 = 32; decide
theorem waitCredit_q (k : Fin 4) : (qDst k).view.dmaCredit = 128 * rowCredit := by
  change RefSig.bitCredit S128 .f32 = 128 * 32; decide
theorem waitCredit_t (k : Fin 3) : (tDst k).view.dmaCredit = 128 * rowCredit := by
  change RefSig.bitCredit S128 .f32 = 128 * 32; decide
theorem rowCredit_pos : 0 < rowCredit := by decide

/-- The batch, `j` of its transfers issued and `u` credits taken. -/
abbrev batch (j u : ℕ) : sProp 𝕄 :=
  Transfers.Batch countersEmb (thr d L) (.dma cc0_scratch5.sem) (default : HIx 1) rowCredit (delivery d L v hv q X Y fr ft) j u

/-! ## The gathers issued -/

/-- What gather `k` of the first table takes: its share of the table, its destination, its list. -/
abbrev qTake (k : Fin 4) : sProp 𝕄 :=
  iprop(((qAll).view.loc (thr d L) ↦[(qAll).view.set]{qPiece q k} X) ∗ ((qDst k).view.loc (thr d L) ↦[(qDst k).view.set]{fullShare} fr)
    ∗ ((qOff k).view.loc (thr d L) ↦[(qOff k).view.set]{fullShare} (qWord v)))
/-- What gather `k` of the second table takes. -/
abbrev tTake (k : Fin 3) : sProp 𝕄 :=
  iprop(((tAll).view.loc (thr d L) ↦[(tAll).view.set]{tPiece q k} Y) ∗ ((tDst k).view.loc (thr d L) ↦[(tDst k).view.set]{fullShare} ft)
    ∗ ((tOff k).view.loc (thr d L) ↦[(tOff k).view.set]{fullShare} (tWord v)))

/-- Before gather `k` of the first table. -/
def qSent (k : ℕ) : sProp 𝕄 :=
  iprop(batch d L v hv q X Y fr ft (128 * k) 0 ∗ bigSep (Transfers.pending (n := 4) k) (qTake d L v q X fr) ∗ H)
/-- Before gather `k` of the second table. -/
def tSent (k : ℕ) : sProp 𝕄 :=
  iprop(batch d L v hv q X Y fr ft (512 + 128 * k) 0 ∗ bigSep (Transfers.pending (n := 3) k) (tTake d L v q Y ft) ∗ H)

theorem wp_qIssue (k : Fin 4) (p : TileProg F L) (hp : Runs d L Q (qSent d L v hv q X Y fr ft H (k.val + 1)) p) :
    Runs d L Q (qSent d L v hv q X Y fr ft H k.val) (qIssue L k p) := by
  have hk := k.isLt
  unfold qIssue Runs
  unfold qSent
  rw [Transfers.bigSep_pending_step (qTake d L v q X fr) k.val hk]
  iintro ⟨HB, ⟨⟨Hs, Hd, Ho⟩, Hrest⟩, HH⟩
  iapply (wp_gatherBatch countersEmb 𝒱₀ (thr d L) none (default : HIx 1) rowCredit (by decide) (rowCredit_q k) (q_in v hv k)
    (show 128 * k.val + 128 ≤ 896 by omega) (Nat.zero_le _)
    (fun i => (delivery_q d L v hv q X Y fr ft k i (by have hi : i.val < 128 := i.isLt; omega)).symm)) $$ [HB Hs Hd Ho]
  · isplitl [Hs]; · iexact Hs
    isplitl [Hd]; · iexact Hd
    isplitl [Ho]; · iexact Ho
    iexact HB
  iintro HB
  iapply hp
  unfold qSent
  isplitl [HB]; · iexact HB
  isplitl [Hrest]; · iexact Hrest
  iexact HH

theorem wp_tIssue (k : Fin 3) (p : TileProg F L) (hp : Runs d L Q (tSent d L v hv q X Y fr ft H (k.val + 1)) p) :
    Runs d L Q (tSent d L v hv q X Y fr ft H k.val) (tIssue L k p) := by
  have hk := k.isLt
  unfold tIssue Runs
  unfold tSent
  rw [Transfers.bigSep_pending_step (tTake d L v q Y ft) k.val hk]
  iintro ⟨HB, ⟨⟨Hs, Hd, Ho⟩, Hrest⟩, HH⟩
  iapply (wp_gatherBatch countersEmb 𝒱₀ (thr d L) none (default : HIx 1) rowCredit (by decide) (rowCredit_t k) (t_in v hv k)
    (show 512 + 128 * k.val + 128 ≤ 896 by omega) (Nat.zero_le _)
    (fun i => (delivery_t d L v hv q X Y fr ft k i (by have hi : i.val < 128 := i.isLt; omega)).symm)) $$ [HB Hs Hd Ho]
  · isplitl [Hs]; · iexact Hs
    isplitl [Hd]; · iexact Hd
    isplitl [Ho]; · iexact Ho
    iexact HB
  iintro HB
  iapply hp
  unfold tSent
  isplitl [HB]; · iexact HB
  isplitl [Hrest]; · iexact Hrest
  iexact HH

/-- The first table's four gathers, issued from the batch fresh. -/
theorem wp_qIssues (p : TileProg F L) (hp : Runs d L Q iprop(batch d L v hv q X Y fr ft 512 0 ∗ H) p) :
    Runs d L Q iprop(batch d L v hv q X Y fr ft 0 0 ∗ bigSep Finset.univ (qTake d L v q X fr) ∗ H) (chain 4 (qIssue L) p) := by
  have hc := chain_rule (fun H p => Runs d L Q H p) (qSent d L v hv q X Y fr ft H) 4 (qIssue L) (wp_qIssue d L Q v hv q X Y fr ft H) p
    ((show qSent d L v hv q X Y fr ft H 4 ⊢ iprop(batch d L v hv q X Y fr ft 512 0 ∗ H) by
      unfold qSent
      iintro ⟨HB, -, HH⟩
      isplitl [HB]; · iexact HB
      iexact HH).trans hp)
  refine (show iprop(batch d L v hv q X Y fr ft 0 0 ∗ bigSep Finset.univ (qTake d L v q X fr) ∗ H) ⊢ qSent d L v hv q X Y fr ft H 0 from ?_).trans hc
  unfold qSent
  rw [← Transfers.bigSep_pending_zero]

/-- The second table's three gathers, issued after the first's. -/
theorem wp_tIssues (p : TileProg F L) (hp : Runs d L Q iprop(batch d L v hv q X Y fr ft 896 0 ∗ H) p) :
    Runs d L Q iprop(batch d L v hv q X Y fr ft 512 0 ∗ bigSep Finset.univ (tTake d L v q Y ft) ∗ H) (chain 3 (tIssue L) p) := by
  have hc := chain_rule (fun H p => Runs d L Q H p) (tSent d L v hv q X Y fr ft H) 3 (tIssue L) (wp_tIssue d L Q v hv q X Y fr ft H) p
    ((show tSent d L v hv q X Y fr ft H 3 ⊢ iprop(batch d L v hv q X Y fr ft 896 0 ∗ H) by
      unfold tSent
      iintro ⟨HB, -, HH⟩
      isplitl [HB]; · iexact HB
      iexact HH).trans hp)
  refine (show iprop(batch d L v hv q X Y fr ft 512 0 ∗ bigSep Finset.univ (tTake d L v q Y ft) ∗ H) ⊢ tSent d L v hv q X Y fr ft H 0 from ?_).trans hc
  unfold tSent
  rw [← Transfers.bigSep_pending_zero]

/-! ## The waits -/

variable (O : CellTallies nD τ sig (HIx 1)) (W : Waits sig (HIx 1))

/-- What the subcore owes, its waits being those of `W` and others at no round. -/
abbrev owing : sProp 𝕄 := iprop(∃ W', ⌜∀ p ∈ W', p ∈ W ∨ p.2 = none⌝ ∗ owes (thr d L) O W')

/-- All issued, `w` waits of 128 rows done. -/
def waited (w k : ℕ) : sProp 𝕄 :=
  iprop(Transfers.MayWaits (thr d L) (default : HIx 1) O ∗ batch d L v hv q X Y fr ft 896 (128 * rowCredit * (w + k)) ∗ owing d L O W ∗ H)

theorem waited_next {n : ℕ} : 128 * rowCredit * n + 128 * rowCredit = 128 * rowCredit * (n + 1) := (Nat.mul_succ _ _).symm
theorem waited_le {n : ℕ} (h : n < 7) : 128 * rowCredit * n + 128 * rowCredit ≤ rowCredit * 896 := by
  rw [waited_next, Nat.mul_comm 128, Nat.mul_assoc]
  exact Nat.mul_le_mul_left _ (by omega)

theorem wp_qWait (k : Fin 4) (p : TileProg F L) (hp : Runs d L Q (waited d L v hv q X Y fr ft H O W 0 (k.val + 1)) p) :
    Runs d L Q (waited d L v hv q X Y fr ft H O W 0 k.val) (qWait L k p) := by
  have hk := k.isLt
  unfold qWait Runs
  unfold waited
  iintro ⟨#Hmw, HB, ⟨%W', %hW, HO⟩, HH⟩
  iapply (Transfers.wp_waitBatchMulO countersEmb 𝒱₀ (thr d L) none (default : HIx 1) 128 (waitCredit_q k)
    (D := delivery d L v hv q X Y fr ft) (j := 896) (u := 128 * rowCredit * (0 + k.val)) (waited_le (n := 0 + k.val) (by omega))) $$ [HB HO]
  · isplitl [HB]; · iexact HB
    isplitl [HO]; · iexact HO
    iapply (Transfers.MayWaits.elim (SemLoc.dma cc0_scratch5.sem)) $$ Hmw
  rw [waited_next]
  iintro ⟨HB, HO⟩
  iapply hp
  unfold waited
  isplitr; · iexact Hmw
  isplitl [HB]; · iexact HB
  isplitl [HO]
  · iexists _
    isplitr
    swap; · iexact HO
    ipureintro; intro p hp
    rcases Finset.mem_insert.mp hp with hp | hp; · exact .inr (hp ▸ rfl)
    exact hW p hp
  iexact HH

theorem wp_tWait (k : Fin 3) (p : TileProg F L) (hp : Runs d L Q (waited d L v hv q X Y fr ft H O W 4 (k.val + 1)) p) :
    Runs d L Q (waited d L v hv q X Y fr ft H O W 4 k.val) (tWait L k p) := by
  have hk := k.isLt
  unfold tWait Runs
  unfold waited
  iintro ⟨#Hmw, HB, ⟨%W', %hW, HO⟩, HH⟩
  iapply (Transfers.wp_waitBatchMulO countersEmb 𝒱₀ (thr d L) none (default : HIx 1) 128 (waitCredit_t k)
    (D := delivery d L v hv q X Y fr ft) (j := 896) (u := 128 * rowCredit * (4 + k.val)) (waited_le (n := 4 + k.val) (by omega))) $$ [HB HO]
  · isplitl [HB]; · iexact HB
    isplitl [HO]; · iexact HO
    iapply (Transfers.MayWaits.elim (SemLoc.dma cc0_scratch5.sem)) $$ Hmw
  rw [waited_next]
  iintro ⟨HB, HO⟩
  iapply hp
  unfold waited
  isplitr; · iexact Hmw
  isplitl [HB]; · iexact HB
  isplitl [HO]
  · iexists _
    isplitr
    swap; · iexact HO
    ipureintro; intro p hp
    rcases Finset.mem_insert.mp hp with hp | hp; · exact .inr (hp ▸ rfl)
    exact hW p hp
  iexact HH

/-- The seven waits. -/
theorem wp_waits (p : TileProg F L) (hp : Runs d L Q (waited d L v hv q X Y fr ft H O W 0 7) p) :
    Runs d L Q (waited d L v hv q X Y fr ft H O W 0 0) (chain 4 (qWait L) (chain 3 (tWait L) p)) :=
  chain_rule (fun H p => Runs d L Q H p) (waited d L v hv q X Y fr ft H O W 0) 4 (qWait L) (wp_qWait d L Q v hv q X Y fr ft H O W) _
    (chain_rule (fun H p => Runs d L Q H p) (waited d L v hv q X Y fr ft H O W 4) 3 (tWait L) (wp_tWait d L Q v hv q X Y fr ft H O W) p hp)

/-! ## The deliveries joined -/

theorem qGroup_join (k : Fin 4) : (bigSep Finset.univ fun i : Fin 128 => qRow d L v hv q X fr k i)
    ⊢ iprop(((qDst k).view.loc (thr d L) ↦[(qDst k).view.set]{fullShare} (qVal v X))
        ∗ ((qAll).view.loc (thr d L) ↦[(qAll).view.set]{qPiece q k} X) ∗ ((qOff k).view.loc (thr d L) ↦[(qOff k).view.set]{fullShare} (qWord v))) := by
  rw [← pointsTo_congr (q_written v hv X fr k)]
  exact rowDelivery_join (thr d L) qAll (qDst k) gathers_S400000_S128 (qOff k) rfl (by decide) (qPiece q k) fullShare X fr (qWord v) (q_in v hv k)
theorem tGroup_join (k : Fin 3) : (bigSep Finset.univ fun i : Fin 128 => tRow d L v hv q Y ft k i)
    ⊢ iprop(((tDst k).view.loc (thr d L) ↦[(tDst k).view.set]{fullShare} (tVal v Y))
        ∗ ((tAll).view.loc (thr d L) ↦[(tAll).view.set]{tPiece q k} Y) ∗ ((tOff k).view.loc (thr d L) ↦[(tOff k).view.set]{fullShare} (tWord v))) := by
  rw [← pointsTo_congr (t_written v hv Y ft k)]
  exact rowDelivery_join (thr d L) tAll (tDst k) gathers_S300000_S128 (tOff k) rfl (by decide) (tPiece q k) fullShare Y ft (tWord v) (t_in v hv k)

/-- A family over `m * 128` members is `m` families of 128. -/
theorem bigSep_groups {m : ℕ} (Φ : Fin (m * 128) → sProp 𝕄) :
    bigSep Finset.univ Φ = bigSep Finset.univ fun k : Fin m => bigSep Finset.univ fun i : Fin 128 => Φ (finProdFinEquiv (k, i)) := by
  rw [BI.bigSep_univ_equiv finProdFinEquiv, BI.bigSep_univ_prod]

/-- All the deliveries, gather by gather. -/
theorem deliveries_groups : bigSep Finset.univ (delivery d L v hv q X Y fr ft)
    = iprop((bigSep Finset.univ fun k : Fin 4 => bigSep Finset.univ fun i : Fin 128 => qRow d L v hv q X fr k i)
        ∗ bigSep Finset.univ fun k : Fin 3 => bigSep Finset.univ fun i : Fin 128 => tRow d L v hv q Y ft k i) := by
  rw [Transfers.bigSep_pending_zero, bigSep_pending_add _ 0 512 (by omega), bigSep_pending_add _ (0 + 512) 384 (by omega),
    bigSep_pending_end _ _ (by omega),
    show ∀ P : sProp 𝕄, iprop(P ∗ emp) = P from fun P => BI.equiv_iff.mp BI.sep_emp]
  congr 1
  · refine (bigSep_groups (m := 4) _).trans (bigSep_congr fun k _ => bigSep_congr fun i _ => ?_)
    rw [← delivery_q d L v hv q X Y fr ft k i (by have := i.isLt; have := k.isLt; omega)]
    congr 1
    apply Fin.ext
    change 0 + (i.val + 128 * k.val) = 128 * k.val + i.val
    omega
  · refine (bigSep_groups (m := 3) _).trans (bigSep_congr fun k _ => bigSep_congr fun i _ => ?_)
    rw [← delivery_t d L v hv q X Y fr ft k i (by have := i.isLt; have := k.isLt; omega)]
    congr 1
    apply Fin.ext
    change 0 + 512 + (i.val + 128 * k.val) = 512 + 128 * k.val + i.val
    omega

/-- All the deliveries: both destinations hold their elements, the tables' shares and the lists are back. -/
theorem deliveries_join : bigSep Finset.univ (delivery d L v hv q X Y fr ft)
    ⊢ iprop(((qrM).view.loc (thr d L) ↦{fullShare} (qVal v X)) ∗ (qLoc d ↦{q} X) ∗ qiPts d L (qWord v)
        ∗ ((trM).view.loc (thr d L) ↦{fullShare} (tVal v Y)) ∗ (tLoc d ↦{q} Y) ∗ tiPts d L (tWord v)) := by
  unfold qiPts tiPts
  rw [deliveries_groups, qr_parts d L, tr_parts d L, q_pieces d L q X, t_pieces d L q Y, qi_parts d L, ti_parts d L]
  iintro ⟨Hq, Ht⟩
  ihave Hq' := (show _ ⊢ _ from bigSep_mono (s := Finset.univ) fun k _ => qGroup_join d L v hv q X fr k) $$ Hq
  ihave Ht' := (show _ ⊢ _ from bigSep_mono (s := Finset.univ) fun k _ => tGroup_join d L v hv q Y ft k) $$ Ht
  ihave Hq1 := Transfers.bigSep_sep_out _ _ _ $$ Hq'
  icases Hq1 with ⟨Hqd, Hq2⟩
  ihave Hq3 := Transfers.bigSep_sep_out _ _ _ $$ Hq2
  icases Hq3 with ⟨Hqs, Hqo⟩
  ihave Ht1 := Transfers.bigSep_sep_out _ _ _ $$ Ht'
  icases Ht1 with ⟨Htd, Ht2⟩
  ihave Ht3 := Transfers.bigSep_sep_out _ _ _ $$ Ht2
  icases Ht3 with ⟨Hts, Hto⟩
  isplitl [Hqd]; · iexact Hqd
  isplitl [Hqs]; · iexact Hqs
  isplitl [Hqo]; · iexact Hqo
  isplitl [Htd]; · iexact Htd
  isplitl [Hts]; · iexact Hts
  iexact Hto

end Cert.KernelIdeal.Gather

end
-- ==== Proof.IdealOut.lean ====
/-
  The task's three copies that name no list, each waited for: first the fetch of the subcore's row numbers (`wp_fetch`),
  last the two write-outs of the gathered elements to the subcore's blocks of the two results (`wp_out`).
-/
module

public import proofs.«01_k».proof.Proof.IdealGathers

@[expose] public section

noncomputable section

namespace Cert.KernelIdeal.Gather

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords) (O : CellTallies nD τ sig (HIx 1)) (W : Waits sig (HIx 1)) (H : sProp (MT nD τ sig (HIx 1) (Elt F) ℕ UU ℕ))

/-- A block of the first result, written whole with `a`, holds `G` where `G` is `a` on the block. -/
theorem qo_written (f G : S16384.Idx → Elt F .f32) (a : S512.Idx → Elt F .f32) (hG : ∀ y, G ((qoRow L).view.emb y) = a y) :
    ∀ x ∈ (qoRow L).view.set, (qoRow L).view.writes (Elt F) f [⟨Rect.whole S512, a⟩] x = G x := by
  intro x hx
  obtain ⟨y, -, rfl⟩ := Finset.mem_map.mp hx
  refine Eq.trans ?_ (hG y).symm
  have h := View.read_writes_cons_emb (v := (qoRow L).view) (Val := Elt F) (f := f) (Rect.whole S512) a [] y
  rw [Rect.emb_whole_apply] at h
  exact h
/-- A block of the second result, likewise. -/
theorem to_written (f G : S12288.Idx → Elt F .f32) (a : S384.Idx → Elt F .f32) (hG : ∀ y, G ((toRow L).view.emb y) = a y) :
    ∀ x ∈ (toRow L).view.set, (toRow L).view.writes (Elt F) f [⟨Rect.whole S384, a⟩] x = G x := by
  intro x hx
  obtain ⟨y, -, rfl⟩ := Finset.mem_map.mp hx
  refine Eq.trans ?_ (hG y).symm
  have h := View.read_writes_cons_emb (v := (toRow L).view) (Val := Elt F) (f := f) (Rect.whole S384) a [] y
  rw [Rect.emb_whole_apply] at h
  exact h

set_option maxHeartbeats 4000000 in
theorem wp_out (a : S512.Idx → Elt F .f32) (b : S384.Idx → Elt F .f32)
    (fq Gq : S16384.Idx → Elt F .f32) (ft Gt : S12288.Idx → Elt F .f32)
    (hq : ∀ y, Gq ((qoRow L).view.emb y) = a y) (ht : ∀ y, Gt ((toRow L).view.emb y) = b y) :
    iprop(Transfers.MayWaits (thr d L) (default : HIx 1) O
        ∗ ((qrM).view.loc (thr d L) ↦{fullShare} a) ∗ ((trM).view.loc (thr d L) ↦{fullShare} b)
        ∗ ((qoRow L).view.loc (thr d L) ↦[(qoRow L).view.set]{fullShare} fq) ∗ ((toRow L).view.loc (thr d L) ↦[(toRow L).view.set]{fullShare} ft)
        ∗ semVal (bCell d (cV L) (jV L)) 0 ∗ semVal (dCell d (cV L) (jV L)) 0 ∗ owing d L O W ∗ H)
      ⊢ wp frame (wpE (defs₀ (F := F)) 𝒱₀ (thr d L) none) Set.univ (outProg L) fun _ =>
          iprop(((qrM).view.loc (thr d L) ↦{fullShare} a) ∗ ((trM).view.loc (thr d L) ↦{fullShare} b)
            ∗ ((qoRow L).view.loc (thr d L) ↦[(qoRow L).view.set]{fullShare} Gq) ∗ ((toRow L).view.loc (thr d L) ↦[(toRow L).view.set]{fullShare} Gt)
            ∗ semVal (bCell d (cV L) (jV L)) 0 ∗ semVal (dCell d (cV L) (jV L)) 0 ∗ owing d L O W ∗ H) := by
  unfold outProg
  iintro ⟨#Hmw, Hqr, Htr, Hqo, Hto, HB, HD, ⟨%W', %hW, HO⟩, HH⟩
  sl_exec
  sl_step
  isplitl [Hqr]; · iexact Hqr
  isplitl [Htr]; · iexact Htr
  isplitl [Hqo]
  · iapply (Entails.of_eq (pointsTo_congr (q := fullShare) (qo_written L fq Gq (wp_out.sl.dma0 a) hq))); iexact Hqo
  isplitl [Hto]
  · iapply (Entails.of_eq (pointsTo_congr (q := fullShare) (to_written L ft Gt (wp_out.sl.dma0_1 b) ht))); iexact Hto
  isplitl [HB]; · iexact HB
  isplitl [HD]; · iexact HD
  isplitr [HH]
  swap; · iexact HH
  iexists _
  isplitr
  swap; · iexact HO
  ipureintro; intro p hp
  rcases Finset.mem_insert.mp hp with hp | hp; · exact .inr (hp ▸ rfl)
  rcases Finset.mem_insert.mp hp with hp | hp; · exact .inr (hp ▸ rfl)
  exact hW p hp

/-! ## The fetch -/

/-- The row numbers of the subcore's block. -/
def rowsOf (I : S4096.Idx → BitVec 32) (L : grid0.Coords) : S128.Idx → BitVec 32 := fun j => I ((idxRow L).view.emb j)

/-- The fetched row numbers are the subcore's. -/
theorem fetched (I : S4096.Idx → BitVec 32) (fs : S128.Idx → BitVec 32) (pay : S128.Idx → Elt F .i32) (hpay : pay = (idxRow L).view.read (Elt F) I) :
    View.write (Elt F) (ivM).view fs pay Finset.univ = rowsOf I L := by
  subst hpay
  exact View.write_whole_univ ..

set_option maxHeartbeats 4000000 in
theorem wp_fetch (Q : PUnit → sProp (MT nD τ sig (HIx 1) (Elt F) ℕ UU ℕ)) (I : S4096.Idx → BitVec 32) (fs : S128.Idx → BitVec 32) (p : TileProg F L)
    (hp : Runs d L Q iprop(Transfers.MayWaits (thr d L) (default : HIx 1) O ∗ ((idxRow L).view.loc (thr d L) ↦[(idxRow L).view.set]{fullShare} I)
      ∗ ivPts d L (rowsOf I L) ∗ semVal (aCell d (cV L) (jV L)) 0 ∗ owing d L O W ∗ H) p) :
    Runs d L Q iprop(Transfers.MayWaits (thr d L) (default : HIx 1) O ∗ ((idxRow L).view.loc (thr d L) ↦[(idxRow L).view.set]{fullShare} I)
      ∗ ivPts d L fs ∗ semVal (aCell d (cV L) (jV L)) 0 ∗ owing d L O W ∗ H) (fetchProg L p) := by
  unfold fetchProg Runs
  unfold Runs at hp
  iintro ⟨#Hmw, Hi, Hiv, HA, ⟨%W', %hW, HO⟩, HH⟩
  sl_exec
  iapply hp
  isplitr; · iexact Hmw
  isplitl [Hi]; · iexact Hi
  isplitl [Hiv]
  · rw [← fetched (F := F) L I fs (wp_fetch.sl.dma0 L I) rfl]
    iexact Hiv
  isplitl [HA]; · iexact HA
  isplitr [HH]
  swap; · iexact HH
  iexists _
  isplitr
  swap; · iexact HO
  ipureintro; intro p hp
  rcases Finset.mem_insert.mp hp with hp | hp; · exact .inr (hp ▸ rfl)
  exact hW p hp

end Cert.KernelIdeal.Gather

end
-- ==== Proof.IdealTile.lean ====
/-
  The task of one vector subcore, from its block of the row numbers, its shares of the two flat tables and its blocks of
  the two results: it ends with those blocks holding the elements their row numbers name (`QO`, `TO`).
-/
module

public import proofs.«01_k».proof.Proof.IdealOut

@[expose] public section

noncomputable section

namespace Cert.KernelIdeal.Gather

open Cert.KernelIdeal Cert.KernelIdeal.Gen Cert.Streams
open Idealize.ShloMosaic
open Idealize.ShloMosaic.SparseCore (S V T)
open Idealize.ShloMosaic.SparseCore.Cfg (HIx ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The two flat results -/

/-- Place `k` of the row numbers. -/
def i4096 (k : ℕ) : S4096.Idx := fun | 0 => ⟨k % 4096, Nat.mod_lt _ (by decide)⟩

/-- The first result, flat: place `x` is element `x % 4` of the row of the first table that row number `x / 4` names. -/
def QO (I : S4096.Idx → BitVec 32) (X : S400000.Idx → Elt F .f32) : S16384.Idx → Elt F .f32 :=
  fun x => X (i400000 ((I (i4096 ((x 0).val / 4))).toNat * 4 + (x 0).val % 4))
/-- The second result, flat: place `x` is element `x % 3` of the row of the second table that row number `x / 3` names. -/
def TO (I : S4096.Idx → BitVec 32) (Y : S300000.Idx → Elt F .f32) : S12288.Idx → Elt F .f32 :=
  fun x => Y (i300000 ((I (i4096 ((x 0).val / 3))).toNat * 3 + (x 0).val % 3))

theorem rowsOf_lt (I : S4096.Idx → BitVec 32) (hI : ∀ x, (I x).toNat < 100000) (L : grid0.Coords) (j : S128.Idx) :
    (rowsOf I L j).toNat < 100000 := hI _

theorem rowsOf_i128 (I : S4096.Idx → BitVec 32) (L : grid0.Coords) (k : ℕ) (hk : k < 128) :
    rowsOf I L (i128 k) = I (i4096 (128 * (2 * (L 1).val + (L 0).val) + k)) := by
  have h0 : (L 0).val < 2 := (L 0).isLt
  have h1 : (L 1).val < 16 := (L 1).isLt
  unfold rowsOf
  congr 1
  funext a
  match a with
  | 0 =>
    apply Fin.ext
    change k0_off1 L 0 + 1 * (k % 128) = (128 * (2 * (L 1).val + (L 0).val) + k) % 4096
    rw [show k0_off1 L 0 = 256 * (L 1).val + 128 * (L 0).val from congrFun (k0_off1_eq L) 0, Nat.mod_eq_of_lt hk, Nat.mod_eq_of_lt (by omega)]
    omega

theorem QO_block (I : S4096.Idx → BitVec 32) (hI : ∀ x, (I x).toNat < 100000) (X : S400000.Idx → Elt F .f32) (L : grid0.Coords) (y : S512.Idx) :
    QO I X ((qoRow L).view.emb y) = qVal (rowsOf I L) X y := by
  have hy : (y 0).val < 512 := (y 0).isLt
  have he : (((qoRow L).view.emb y) 0).val = 512 * (2 * (L 1).val + (L 0).val) + (y 0).val := by
    change k0_off2 L 0 + 1 * (y 0).val = _
    rw [show k0_off2 L 0 = 1024 * (L 1).val + 512 * (L 0).val from congrFun (k0_off2_eq L) 0]
    omega
  unfold QO qVal
  rw [he, qWord_toNat (rowsOf I L) (rowsOf_lt I hI L), rowsOf_i128 I L _ (by omega)]
  rw [show (512 * (2 * (L 1).val + (L 0).val) + (y 0).val) / 4 = 128 * (2 * (L 1).val + (L 0).val) + (y 0).val / 4 by omega,
    show (512 * (2 * (L 1).val + (L 0).val) + (y 0).val) % 4 = (y 0).val % 4 by omega]

theorem TO_block (I : S4096.Idx → BitVec 32) (hI : ∀ x, (I x).toNat < 100000) (Y : S300000.Idx → Elt F .f32) (L : grid0.Coords) (y : S384.Idx) :
    TO I Y ((toRow L).view.emb y) = tVal (rowsOf I L) Y y := by
  have hy : (y 0).val < 384 := (y 0).isLt
  have he : (((toRow L).view.emb y) 0).val = 384 * (2 * (L 1).val + (L 0).val) + (y 0).val := by
    change k0_off3 L 0 + 1 * (y 0).val = _
    rw [show k0_off3 L 0 = 768 * (L 1).val + 384 * (L 0).val from congrFun (k0_off3_eq L) 0]
    omega
  unfold TO tVal
  rw [he, tWord_toNat (rowsOf I L) (rowsOf_lt I hI L), rowsOf_i128 I L _ (by omega)]
  rw [show (384 * (2 * (L 1).val + (L 0).val) + (y 0).val) / 3 = 128 * (2 * (L 1).val + (L 0).val) + (y 0).val / 3 by omega,
    show (384 * (2 * (L 1).val + (L 0).val) + (y 0).val) % 3 = (y 0).val % 3 by omega]

/-! ## From the fetched row numbers to the end -/

section Mid

variable (d : Dev nD) (L : grid0.Coords) (O : CellTallies nD τ sig (HIx 1)) (W : Waits sig (HIx 1))
variable (v : S128.Idx → BitVec 32) (hv : ∀ j, (v j).toNat < 100000) (q : PosShare TreeShare)
variable (X : S400000.Idx → Elt F .f32) (Y : S300000.Idx → Elt F .f32) (fr : S512.Idx → Elt F .f32) (ft : S384.Idx → Elt F .f32)
variable (fq Gq : S16384.Idx → Elt F .f32) (fo Gt : S12288.Idx → Elt F .f32)

/-- What the whole of the rest leaves alone until the write-outs: the row numbers, the results' blocks, two cells. -/
abbrev restPts (fq : S16384.Idx → Elt F .f32) (fo : S12288.Idx → Elt F .f32) : sProp 𝕄 :=
  iprop(ivPts d L v ∗ ((qoRow L).view.loc (thr d L) ↦[(qoRow L).view.set]{fullShare} fq) ∗ ((toRow L).view.loc (thr d L) ↦[(toRow L).view.set]{fullShare} fo)
    ∗ semVal (bCell d (cV L) (jV L)) 0 ∗ semVal (dCell d (cV L) (jV L)) 0)

/-- What the task ends with. -/
abbrev midPost : sProp 𝕄 :=
  iprop(((qrM).view.loc (thr d L) ↦{fullShare} (qVal v X)) ∗ ((trM).view.loc (thr d L) ↦{fullShare} (tVal v Y))
    ∗ ((qoRow L).view.loc (thr d L) ↦[(qoRow L).view.set]{fullShare} Gq) ∗ ((toRow L).view.loc (thr d L) ↦[(toRow L).view.set]{fullShare} Gt)
    ∗ semVal (bCell d (cV L) (jV L)) 0 ∗ semVal (dCell d (cV L) (jV L)) 0 ∗ owing d L O W
    ∗ ivPts d L v ∗ qiPts d L (qWord v) ∗ tiPts d L (tWord v) ∗ (qLoc d ↦{q} X) ∗ (tLoc d ↦{q} Y) ∗ semVal (gCell d (cV L) (jV L)) 0)

/-- After the seven waits: the deliveries collected, then the write-outs. -/
theorem wp_collect (hq : ∀ y, Gq ((qoRow L).view.emb y) = qVal v X y) (ht : ∀ y, Gt ((toRow L).view.emb y) = tVal v Y y) :
    Runs d L (fun _ => midPost d L O W v q X Y Gq Gt) (waited d L v hv q X Y fr ft (restPts d L v fq fo) O W 0 7) (outProg L) := by
  unfold Runs waited
  rw [show 128 * rowCredit * (0 + 7) = rowCredit * 896 from rfl]
  iintro ⟨#Hmw, HB, HO, ⟨Hiv, Hqo, Hto, HsB, HsD⟩⟩
  imod (Transfers.batch_collect' countersEmb (thr d L) rowCredit_pos) $$ HB with ⟨HD, HG⟩
  ihave HD' := (deliveries_join d L v hv q X Y fr ft) $$ HD
  icases HD' with ⟨Hqr, HX, Hqi, Htr, HY, Hti⟩
  iapply (wp_out d L O W iprop(ivPts d L v ∗ qiPts d L (qWord v) ∗ tiPts d L (tWord v) ∗ (qLoc d ↦{q} X) ∗ (tLoc d ↦{q} Y)
    ∗ semVal (gCell d (cV L) (jV L)) 0) (qVal v X) (tVal v Y) fq Gq fo Gt hq ht)
  isplitr; · iexact Hmw
  isplitl [Hqr]; · iexact Hqr
  isplitl [Htr]; · iexact Htr
  isplitl [Hqo]; · iexact Hqo
  isplitl [Hto]; · iexact Hto
  isplitl [HsB]; · iexact HsB
  isplitl [HsD]; · iexact HsD
  isplitl [HO]; · iexact HO
  isplitl [Hiv]; · iexact Hiv
  isplitl [Hqi]; · iexact Hqi
  isplitl [Hti]; · iexact Hti
  isplitl [HX]; · iexact HX
  isplitl [HY]; · iexact HY
  iexact HG

include hv in
/-- The gathers, their waits and the write-outs, from the two lists filled. -/
theorem wp_gathers (hq : ∀ y, Gq ((qoRow L).view.emb y) = qVal v X y) (ht : ∀ y, Gt ((toRow L).view.emb y) = tVal v Y y) :
    Runs d L (fun _ => midPost d L O W v q X Y Gq Gt)
      iprop(tiPts d L (tWord v) ∗ ivPts d L v ∗ qiPts d L (qWord v) ∗ ((qrM).view.loc (thr d L) ↦{fullShare} fr) ∗ ((trM).view.loc (thr d L) ↦{fullShare} ft)
        ∗ (qLoc d ↦{q} X) ∗ (tLoc d ↦{q} Y) ∗ semVal (gCell d (cV L) (jV L)) 0 ∗ Transfers.MayWaits (thr d L) (default : HIx 1) O ∗ owing d L O W
        ∗ ((qoRow L).view.loc (thr d L) ↦[(qoRow L).view.set]{fullShare} fq) ∗ ((toRow L).view.loc (thr d L) ↦[(toRow L).view.set]{fullShare} fo)
        ∗ semVal (bCell d (cV L) (jV L)) 0 ∗ semVal (dCell d (cV L) (jV L)) 0)
      (chain 4 (qIssue L) (chain 3 (tIssue L) (chain 4 (qWait L) (chain 3 (tWait L) (outProg L))))) := by
  have h3 : Runs d L (fun _ => midPost d L O W v q X Y Gq Gt)
      iprop(batch d L v hv q X Y fr ft 896 0 ∗ Transfers.MayWaits (thr d L) (default : HIx 1) O ∗ owing d L O W ∗ restPts d L v fq fo)
      (chain 4 (qWait L) (chain 3 (tWait L) (outProg L))) := by
    refine (show _ ⊢ waited d L v hv q X Y fr ft (restPts d L v fq fo) O W 0 0 from ?_).trans
      (wp_waits d L _ v hv q X Y fr ft (restPts d L v fq fo) O W _ (wp_collect d L O W v hv q X Y fr ft fq Gq fo Gt hq ht))
    unfold waited
    iintro ⟨HB, Hmw, HO, HR⟩
    isplitl [Hmw]; · iexact Hmw
    isplitl [HB]; · iexact HB
    isplitl [HO]; · iexact HO
    iexact HR
  have h1 := wp_qIssues d L (fun _ => midPost d L O W v q X Y Gq Gt) v hv q X Y fr ft _ _ (wp_tIssues d L (fun _ => midPost d L O W v q X Y Gq Gt) v hv q X Y fr ft _ _ h3)
  unfold Runs qiPts tiPts
  rw [qr_parts d L, tr_parts d L, q_pieces d L q X, t_pieces d L q Y, qi_parts d L, ti_parts d L]
  iintro ⟨Hti, Hiv, Hqi, Hqr, Htr, HX, HY, HG, Hmw, HO, Hqo, Hto, HsB, HsD⟩
  imod (Transfers.batch_alloc' countersEmb (thr d L) (default : HIx 1) rowCredit (delivery d L v hv q X Y fr ft)) $$ HG with HB
  ihave H1 := Transfers.bigSep_sep_in _ _ _ $$ [Hqr Hqi]
  · isplitl [Hqr]; · iexact Hqr
    iexact Hqi
  ihave Hq := Transfers.bigSep_sep_in _ _ _ $$ [HX H1]
  · isplitl [HX]; · iexact HX
    iexact H1
  ihave H2 := Transfers.bigSep_sep_in _ _ _ $$ [Htr Hti]
  · isplitl [Htr]; · iexact Htr
    iexact Hti
  ihave Ht := Transfers.bigSep_sep_in _ _ _ $$ [HY H2]
  · isplitl [HY]; · iexact HY
    iexact H2
  iapply h1
  isplitl [HB]; · iexact HB
  isplitl [Hq]; · iexact Hq
  isplitl [Ht]; · iexact Ht
  isplitl [Hmw]; · iexact Hmw
  isplitl [HO]; · iexact HO
  isplitl [Hiv]; · iexact Hiv
  isplitl [Hqo]; · iexact Hqo
  isplitl [Hto]; · iexact Hto
  isplitl [HsB]; · iexact HsB
  iexact HsD

include hv in
/-- Everything after the fetch. -/
theorem wp_mid (gq : S512.Idx → BitVec 32) (gt : S384.Idx → BitVec 32)
    (hq : ∀ y, Gq ((qoRow L).view.emb y) = qVal v X y) (ht : ∀ y, Gt ((toRow L).view.emb y) = tVal v Y y) :
    Runs d L (fun _ => midPost d L O W v q X Y Gq Gt)
      iprop(qiPts d L gq ∗ ivPts d L v ∗ tiPts d L gt ∗ ((qrM).view.loc (thr d L) ↦{fullShare} fr) ∗ ((trM).view.loc (thr d L) ↦{fullShare} ft)
        ∗ (qLoc d ↦{q} X) ∗ (tLoc d ↦{q} Y) ∗ semVal (gCell d (cV L) (jV L)) 0 ∗ Transfers.MayWaits (thr d L) (default : HIx 1) O ∗ owing d L O W
        ∗ ((qoRow L).view.loc (thr d L) ↦[(qoRow L).view.set]{fullShare} fq) ∗ ((toRow L).view.loc (thr d L) ↦[(toRow L).view.set]{fullShare} fo)
        ∗ semVal (bCell d (cV L) (jV L)) 0 ∗ semVal (dCell d (cV L) (jV L)) 0)
      (midProg L) := by
  unfold midProg
  refine wp_qChunks d L _ v _ _ gq ?_
  refine (show _ ⊢ _ from ?_).trans (wp_tChunks d L _ v _ _ gt (wp_gathers d L O W v hv q X Y fr ft fq Gq fo Gt hq ht))
  iintro ⟨Hqi, Hiv, Hti, HR⟩
  isplitl [Hti]; · iexact Hti
  isplitl [Hiv]; · iexact Hiv
  isplitl [Hqi]; · iexact Hqi
  iexact HR

end Mid

/-! ## The whole task -/

section Body

variable (I : S4096.Idx → BitVec 32) (X : S400000.Idx → Elt F .f32) (Y : S300000.Idx → Elt F .f32)

/-- What subcore `s` of SparseCore `c` holds, the results' blocks at `f` and `g`: its row numbers, its shares of the two
    tables, its blocks of the two results. -/
def tilePts (d : Dev nD) (c : Fin 2) (s : Fin 16) (f : S16384.Idx → Elt F .f32) (g : S12288.Idx → Elt F .f32) : sProp 𝕄 :=
  iprop((iLoc d ↦[blk 4096 128 c s]{fullShare} I) ∗ (qLoc d ↦{share c s} X) ∗ (tLoc d ↦{share c s} Y)
    ∗ (qoLoc d ↦[blk 16384 512 c s]{fullShare} f) ∗ (toLoc d ↦[blk 12288 384 c s]{fullShare} g))

variable (d : Dev nD) (L : grid0.Coords)

/-- The fetch and the rest, whatever else (`H`) is held. -/
theorem wp_tile (hI : ∀ x, (I x).toNat < 100000) (O : CellTallies nD τ sig (HIx 1)) (W : Waits sig (HIx 1)) (q : PosShare TreeShare)
    (fi : S128.Idx → BitVec 32) (gq : S512.Idx → BitVec 32) (gt : S384.Idx → BitVec 32) (fr : S512.Idx → Elt F .f32) (ft : S384.Idx → Elt F .f32)
    (fq : S16384.Idx → Elt F .f32) (fo : S12288.Idx → Elt F .f32) (H : sProp 𝕄) :
    Runs d L (fun _ => iprop(midPost d L O W (rowsOf I L) q X Y (QO I X) (TO I Y)
        ∗ ((idxRow L).view.loc (thr d L) ↦[(idxRow L).view.set]{fullShare} I) ∗ semVal (aCell d (cV L) (jV L)) 0 ∗ H))
      iprop(Transfers.MayWaits (thr d L) (default : HIx 1) O ∗ ((idxRow L).view.loc (thr d L) ↦[(idxRow L).view.set]{fullShare} I)
        ∗ ivPts d L fi ∗ semVal (aCell d (cV L) (jV L)) 0 ∗ owing d L O W
        ∗ qiPts d L gq ∗ tiPts d L gt ∗ ((qrM).view.loc (thr d L) ↦{fullShare} fr) ∗ ((trM).view.loc (thr d L) ↦{fullShare} ft)
        ∗ (qLoc d ↦{q} X) ∗ (tLoc d ↦{q} Y) ∗ semVal (gCell d (cV L) (jV L)) 0
        ∗ ((qoRow L).view.loc (thr d L) ↦[(qoRow L).view.set]{fullShare} fq) ∗ ((toRow L).view.loc (thr d L) ↦[(toRow L).view.set]{fullShare} fo)
        ∗ semVal (bCell d (cV L) (jV L)) 0 ∗ semVal (dCell d (cV L) (jV L)) 0 ∗ H)
      (tileProg L) := by
  unfold tileProg
  refine wp_fetch d L O W _ _ I fi _ ?_
  have hm := wp_mid d L O W (rowsOf I L) (rowsOf_lt I hI L) q X Y fr ft fq (QO I X) fo (TO I Y) gq gt (QO_block I hI X L) (TO_block I hI Y L)
  unfold Runs at hm ⊢
  iintro ⟨Hmw, Hi, Hiv, HA, HO, Hqi, Hti, Hqr, Htr, HX, HY, HG, Hqo, Hto, HB, HD, HH⟩
  iapply (wp_frame_r frame (wpE (defs₀ (F := F)) 𝒱₀ (thr d L) none) Set.univ)
  isplitr [Hi HA HH]
  · iapply hm
    isplitl [Hqi]; · iexact Hqi
    isplitl [Hiv]; · iexact Hiv
    isplitl [Hti]; · iexact Hti
    isplitl [Hqr]; · iexact Hqr
    isplitl [Htr]; · iexact Htr
    isplitl [HX]; · iexact HX
    isplitl [HY]; · iexact HY
    isplitl [HG]; · iexact HG
    isplitl [Hmw]; · iexact Hmw
    isplitl [HO]; · iexact HO
    isplitl [Hqo]; · iexact Hqo
    isplitl [Hto]; · iexact Hto
    isplitl [HB]; · iexact HB
    iexact HD
  · isplitl [Hi]; · iexact Hi
    isplitl [HA]; · iexact HA
    iexact HH

set_option maxHeartbeats 4000000 in
/-- The task on vector subcore `L 1` of SparseCore `L 0` of device `d`: from its blocks and shares, the row numbers all
    below 100000, to the same with the results' blocks holding the elements the row numbers name. -/
theorem tile_body (hF : (K (F := F)).Facts) (hI : ∀ x, (I x).toNat < 100000) (f : S16384.Idx → Elt F .f32) (g : S12288.Idx → Elt F .f32)
    (O : CellTallies nD τ sig (HIx 1)) (W : Waits sig (HIx 1)) (hO : ∀ g, O g none = 0) :
    iprop(levAts (K (F := F)).L (K (F := F)).lev ∗ emp ∗ tilePts I X Y d (cL L) (jL L) f g
        ∗ scopedBufs (thr d L) ∗ scopedSems0 (thr d L) ∗ owes (thr d L) O W)
      ⊢ wp frame (wpE (defs₀ (F := F)) 𝒱₀ (thr d L) none) Set.univ (tileProg L)
          fun _ => iprop(tilePts I X Y d (cL L) (jL L) (QO I X) (TO I Y)
            ∗ scopedBufs (thr d L) ∗ scopedSems0 (thr d L) ∗ owing d L O W) := by
  rw [(K (F := F)).scopedBufs_V hF d (cV L) (jV L), SparseCore.Cfg.scopedSems0_V (Val := Elt F) d (cV L) (jV L), ownSems0_V, ownBufs_V]
  unfold tilePts
  have h := fun fi gq gt fr ft H => wp_tile I X Y d L hI O W (share (cL L) (jL L)) fi gq gt fr ft f g H
  unfold Runs at h
  iintro ⟨#Hlv, -, ⟨Hi, HX, HY, Hqo, Hto⟩, ⟨⟨%fi, Hiv⟩, ⟨%fqi, Hqi⟩, ⟨%fti, Hti⟩, ⟨%fqr, Hqr⟩, ⟨%ftr, Htr⟩, Hbufs⟩, ⟨HsG, HsA, HsB, HsD, Hsems⟩, HO⟩
  ihave Hmw := (show levAts (K (F := F)).L (K (F := F)).lev ⊢ Transfers.MayWaits (thr d L) (default : HIx 1) O from
    (K (F := F)).mayWaits_none (thr := thr d L) hO) $$ Hlv
  ihave Hi' := (Entails.of_eq (pts_idxRow (F := F) d L _).symm) $$ Hi
  ihave Hqo' := (Entails.of_eq (pts_qoRow (F := F) d L _).symm) $$ Hqo
  ihave Hto' := (Entails.of_eq (pts_toRow (F := F) d L _).symm) $$ Hto
  ihave HH := (show _ ∗ _ ⊢ iprop(_ ∗ _) from Entails.refl) $$ [Hbufs Hsems]
  · isplitl [Hbufs]; · iexact Hbufs
    iexact Hsems
  ihave Hwp := (h fi fqi fti fqr ftr _) $$ [Hmw Hi' Hiv HsA HO Hqi Hti Hqr Htr HX HY HsG Hqo' Hto' HsB HsD HH]
  · isplitl [Hmw]; · iexact Hmw
    isplitl [Hi']; · iexact Hi'
    isplitl [Hiv]; · iexact Hiv
    isplitl [HsA]; · iexact HsA
    isplitl [HO]
    · iexists W
      isplitr
      swap; · iexact HO
      ipureintro; exact fun p hp => .inl hp
    isplitl [Hqi]; · iexact Hqi
    isplitl [Hti]; · iexact Hti
    isplitl [Hqr]; · iexact Hqr
    isplitl [Htr]; · iexact Htr
    isplitl [HX]; · iexact HX
    isplitl [HY]; · iexact HY
    isplitl [HsG]; · iexact HsG
    isplitl [Hqo']; · iexact Hqo'
    isplitl [Hto']; · iexact Hto'
    isplitl [HsB]; · iexact HsB
    isplitl [HsD]; · iexact HsD
    iexact HH
  iapply (wp_wand_r frame (wpE (defs₀ (F := F)) 𝒱₀ (thr d L) none) Set.univ)
  isplitl [Hwp]; · iexact Hwp
  iintro %_ ⟨⟨Hqr, Htr, Hqo, Hto, HsB, HsD, HO, Hiv, Hqi, Hti, HX, HY, HsG⟩, Hi, HsA, ⟨Hbufs, Hsems⟩⟩
  isplitl [Hi HX HY Hqo Hto]
  · isplitl [Hi]; · iapply (Entails.of_eq (pts_idxRow (F := F) d L I)); iexact Hi
    isplitl [HX]; · iexact HX
    isplitl [HY]; · iexact HY
    isplitl [Hqo]; · iapply (Entails.of_eq (pts_qoRow (F := F) d L (QO I X))); iexact Hqo
    iapply (Entails.of_eq (pts_toRow (F := F) d L (TO I Y))); iexact Hto
  isplitl [Hiv Hqi Hti Hqr Htr Hbufs]
  · isplitl [Hiv]; · iexists _; iexact Hiv
    isplitl [Hqi]; · iexists _; iexact Hqi
    isplitl [Hti]; · iexists _; iexact Hti
    isplitl [Hqr]; · iexists _; iexact Hqr
    isplitl [Htr]; · iexists _; iexact Htr
    iexact Hbufs
  isplitl [HsG HsA HsB HsD Hsems]
  · isplitl [HsG]; · iexact HsG
    isplitl [HsA]; · iexact HsA
    isplitl [HsB]; · iexact HsB
    isplitl [HsD]; · iexact HsD
    iexact Hsems
  iexact HO

end Body

end Cert.KernelIdeal.Gather

end
-- ==== Proof.IdealLaunch.lean ====
/-
  The launch: what the one SparseCore call is handed and hands back, each subcore's obligation (`tile_body`), @main on the
  TensorCore (two reshapes, the call, two reshapes), and the whole program's run (`run_main`): it ends with both results
  at their values, the arguments unchanged and every counter zero.
-/
module

public import proofs.«01_k».proof.Proof.IdealTile

@[expose] public section

noncomputable section

namespace Cert.KernelIdeal.Gather

open Cert.KernelIdeal Cert.KernelIdeal.Gen Cert.Streams
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## What each buffer holds at the end -/

abbrev qtLoc (d : Dev nD) : Loc nD τ sig := (SparseCore.T d).loc main_arg1
abbrev ttLoc (d : Dev nD) : Loc nD τ sig := (SparseCore.T d).loc main_arg2
abbrev qRes (d : Dev nD) : Loc nD τ sig := (SparseCore.T d).loc main_v3
abbrev tRes (d : Dev nD) : Loc nD τ sig := (SparseCore.T d).loc main_v4

/-- The two tables, flat. -/
def XF (d : Dev nD) : S400000.Idx → Elt F .f32 := fun i => shapeCast S400000 (m (qtLoc d) : S100000x4.Idx → Elt F .f32) shapeCasts_S100000x4_S400000 i
def YF (d : Dev nD) : S300000.Idx → Elt F .f32 := fun i => shapeCast S300000 (m (ttLoc d) : S100000x3.Idx → Elt F .f32) shapeCasts_S100000x3_S300000 i
/-- The two results, flat. -/
def QF (d : Dev nD) : S16384.Idx → Elt F .f32 := QO (m (iLoc d)) (XF m d)
def TF (d : Dev nD) : S12288.Idx → Elt F .f32 := TO (m (iLoc d)) (YF m d)
/-- The two results. -/
def QR (d : Dev nD) : S4096x4.Idx → Elt F .f32 := fun i => shapeCast S4096x4 (QF m d) shapeCasts_S16384_S4096x4 i
def TR (d : Dev nD) : S4096x3.Idx → Elt F .f32 := fun i => shapeCast S4096x3 (TF m d) shapeCasts_S12288_S4096x3 i

/-- What the proof asks of the launch memory: every row number names a row. -/
def PreOK : Prop := ∀ (d : Dev nD) (x : S4096.Idx), (m (iLoc d) x : BitVec 32).toNat < 100000

/-! ## What the call carries -/

/-- A subcore's holdings before its task, and after. -/
abbrev before (d : Dev nD) (c : Fin 2) (s : Fin 16) : sProp 𝕄 := tilePts (m (iLoc d)) (XF m d) (YF m d) d c s (m (qoLoc d)) (m (toLoc d))
abbrev done (d : Dev nD) (c : Fin 2) (s : Fin 16) : sProp 𝕄 := tilePts (m (iLoc d)) (XF m d) (YF m d) d c s (QF m d) (TF m d)

instance tilePts_storable (I : S4096.Idx → BitVec 32) (X : S400000.Idx → Elt F .f32) (Y : S300000.Idx → Elt F .f32) (d : Dev nD) (c : Fin 2) (s : Fin 16)
    (f : S16384.Idx → Elt F .f32) (g : S12288.Idx → Elt F .f32) : BI.Storable (upEmb : UEmb _ 𝕄) (tilePts I X Y d c s f g) := by
  unfold tilePts; infer_instance

/-- Each SparseCore is handed its subcores' holdings, and hands them back done. -/
def P : (K (F := F)).Pay (nD := nD) (Val := Elt F) (Name := ℕ) (U := UU) where
  st := fun q d c => match q with | 0 => bigSep Finset.univ fun i : Fin 16 => before m d (Fin.cast nCore_zero c) i
  dn := fun q d c => match q with | 0 => bigSep Finset.univ fun i : Fin 16 => done m d (Fin.cast nCore_zero c) i
  go := fun q d c i => match q with | 0 => before m d (Fin.cast nCore_zero c) (Fin.cast nSub_zero i)
  td := fun q d c i => match q with | 0 => done m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => before m d (Fin.cast nCore_zero c) i))
  dn q d c := match q with
    | 0 => (inferInstance : BI.Storable (upEmb : UEmb _ 𝕄) (bigSep Finset.univ fun i : Fin 16 => done m d (Fin.cast nCore_zero c) i))
  go q d c i := match q with
    | 0 => (inferInstance : BI.Storable (upEmb : UEmb _ 𝕄) (before m d (Fin.cast nCore_zero c) (Fin.cast nSub_zero i)))
  td q d c i := match q with
    | 0 => (inferInstance : BI.Storable (upEmb : UEmb _ 𝕄) (done m d (Fin.cast nCore_zero c) (Fin.cast nSub_zero i)))

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => tileProg (coordsV c s)) ⟨⟩ c s := by
  simp only [← gather_body_eq]
  rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (m (iLoc d)) (XF m d) (YF m d) d (coordsV ⟨_, hci.1⟩ ⟨_, hci.2⟩) hF (hpre d) (m (qoLoc d)) (m (toLoc d)) O W hO).trans
    (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P m) 0 := by
  intro d c
  show (bigSep Finset.univ fun i : Fin 16 => before m d (Fin.cast nCore_zero c) i) ⊢ |={Set.univ}=> iprop(
      (bigSep Finset.univ fun i : Fin ((K (F := F)).nSub 0) => before m d (Fin.cast nCore_zero c) (Fin.cast nSub_zero i))
      ∗ ((bigSep Finset.univ fun i : Fin ((K (F := F)).nSub 0) => done m d (Fin.cast nCore_zero c) (Fin.cast nSub_zero i))
          -∗ bigSep Finset.univ fun i : Fin 16 => done m d (Fin.cast nCore_zero c) i))
  rw [bigSep_tasks (F := F) (before m d (Fin.cast nCore_zero c)), bigSep_tasks (F := F) (done m d (Fin.cast nCore_zero c))]
  iintro H; imodintro
  isplitl [H]; · iexact H
  iintro H; iexact H

/-! ## The launch element of the certificate's ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

theorem unscopedBufs_eq (d : Dev nD) (W : (b : Ref sig .tc) → Buf (Elt F) ((d.tc : Thread nD τ).loc b)) :
    (unscopedBufs d W : sProp 𝕄) = iprop((iLoc d ↦{fullShare} W main_arg0) ∗ (qtLoc d ↦{fullShare} W main_arg1) ∗ (ttLoc d ↦{fullShare} W main_arg2)
      ∗ (qLoc d ↦{fullShare} W main_v0) ∗ (tLoc d ↦{fullShare} W main_v1) ∗ (qoLoc d ↦{fullShare} W main_v2_0) ∗ (toLoc d ↦{fullShare} W main_v2_1)
      ∗ (qRes d ↦{fullShare} W main_v3) ∗ (tRes d ↦{fullShare} W main_v4)) := by
  unfold unscopedBufs
  rw [show (Finset.univ.filter fun b : Ref sig .tc => ¬ b.isScoped) = {main_arg0, main_arg1, main_arg2, main_v0, main_v1, main_v2_0, main_v2_1, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- Every subcore's holdings are the five buffers held whole. -/
theorem tiles_whole (d : Dev nD) (I : S4096.Idx → BitVec 32) (X : S400000.Idx → Elt F .f32) (Y : S300000.Idx → Elt F .f32)
    (f : S16384.Idx → Elt F .f32) (g : S12288.Idx → Elt F .f32) :
    (bigSep Finset.univ fun c : Fin 2 => bigSep Finset.univ fun s : Fin 16 => tilePts I X Y d c s f g)
      = (iprop((iLoc d ↦{fullShare} I) ∗ (qLoc d ↦{fullShare} X) ∗ (tLoc d ↦{fullShare} Y) ∗ (qoLoc d ↦{fullShare} f) ∗ (toLoc d ↦{fullShare} g)) : sProp 𝕄) := by
  unfold tilePts
  simp only [bigSep_sep']
  rw [← iPts_blocks d I, ← pts_shares (ℓ := qLoc d) X, ← pts_shares (ℓ := tLoc d) Y, ← qoPts_blocks d f, ← toPts_blocks d g]

theorem st0_eq (d : Dev nD) : (bigSep Finset.univ fun c : Fin ((K (F := F)).nCore 0) => (P m).st 0 d c)
    = iprop((iLoc d ↦{fullShare} m (iLoc d)) ∗ (qLoc d ↦{fullShare} XF m d) ∗ (tLoc d ↦{fullShare} YF m d)
        ∗ (qoLoc d ↦{fullShare} m (qoLoc d)) ∗ (toLoc d ↦{fullShare} m (toLoc d))) :=
  (bigSep_cores (F := F) fun c => bigSep Finset.univ fun i : Fin 16 => before m d c i).trans (tiles_whole ..)
theorem dn0_eq (d : Dev nD) : (bigSep Finset.univ fun c : Fin ((K (F := F)).nCore 0) => (P m).dn 0 d c)
    = iprop((iLoc d ↦{fullShare} m (iLoc d)) ∗ (qLoc d ↦{fullShare} XF m d) ∗ (tLoc d ↦{fullShare} YF m d)
        ∗ (qoLoc d ↦{fullShare} QF m d) ∗ (toLoc d ↦{fullShare} TF m d)) :=
  (bigSep_cores (F := F) fun c => bigSep Finset.univ fun i : Fin 16 => done m d c i).trans (tiles_whole ..)

include m in
/-- A reshape of buffer `x` into buffer `y`: `y` ends at `x`'s contents in row-major order, `x` unchanged. -/
theorem wp_reshape (d : Dev nD) (x y : Ref sig .tc) (hxy : x ≠ y) (he : x.ty.elt = y.ty.elt) (hn : x.ty.shape.ShapeCasts y.ty.shape)
    (hx : x.space ≠ .host ∧ (Proc.devRef .tc x : DevRef τ sig).isScoped = false) (hy : y.space ≠ .host ∧ (Proc.devRef .tc y : DevRef τ sig).isScoped = false)
    (f : Buf (Elt F) ((SparseCore.T d).loc x)) (g : Buf (Elt F) ((SparseCore.T d).loc y)) {Q : PUnit → sProp 𝕄} :
    iprop(boundary (SparseCore.T d : Thread nD τ) ∗ ((SparseCore.T d).loc x ↦{fullShare} f) ∗ ((SparseCore.T d).loc y ↦{fullShare} g))
      ⊢ iprop(((boundary (SparseCore.T d : Thread nD τ) ∗ ((SparseCore.T d).loc x ↦{fullShare} f)
            ∗ ((SparseCore.T d).loc y ↦{fullShare} (fun i => he ▸ shapeCast y.ty.shape f hn i : Buf (Elt F) ((SparseCore.T d).loc y)))) -∗ Q ⟨⟩)
        -∗ wp frame (wpE ((K (F := F)).defs (D (F := F))) 𝒱 (SparseCore.T d) none) Set.univ (hlo rfl (StableHlo.reshape x y he hn hx hy) (fun _ => .ret ⟨⟩)) Q) := by
  have hne : Proc.devRef (τ := τ) .tc x ≠ Proc.devRef .tc y := StableHlo.devRef_ne_of_ne hxy
  have hh : ∀ V : Valuation τ sig (Elt F), (held (SparseCore.T d) {Proc.devRef .tc x, Proc.devRef .tc y} V : sProp 𝕄)
      = iprop(((SparseCore.T d).loc x ↦{fullShare} V (Proc.devRef .tc x)) ∗ ((SparseCore.T d).loc y ↦{fullShare} V (Proc.devRef .tc y))) := fun V => by
    unfold held
    rw [SparseCore.bigSep_insert' (by rw [Finset.mem_singleton]; exact hne), bigSep_singleton]
  let V : Valuation τ sig (Elt F) := Function.update (Function.update (fun b => m (d, b)) (Proc.devRef .tc x) f) (Proc.devRef .tc y) g
  have hVx : V (Proc.devRef .tc x) = f := (Function.update_of_ne hne _ _).trans (Function.update_self _ _ _)
  have hVy : V (Proc.devRef .tc y) = g := Function.update_self _ _ _
  iintro ⟨Hb, Hx, Hy⟩ Hk
  iapply (wp_hlo_within 𝒱 (SparseCore.T d) none Set.univ (op := StableHlo.reshape x y he hn hx hy) (S := {Proc.devRef .tc x, Proc.devRef .tc y})
    (Finset.Subset.refl _) (V := V)) $$ [Hb Hx Hy]
  · isplitl [Hb]; · iexact Hb
    rw [hh, hVx, hVy]
    isplitl [Hx]; · iexact Hx
    iexact Hy
  iintro ⟨Hb, Hheld⟩
  ihave Hh := (Entails.of_eq (hh _)) $$ Hheld
  rw [StableHlo.reshape_result_ne x y he hn hx hy V hxy, StableHlo.reshape_result x y he hn hx hy V, hVx, wp_ret]
  icases Hh with ⟨Hx, Hy⟩
  imodintro
  iapply Hk
  isplitl [Hb]; · iexact Hb
  isplitl [Hx]; · iexact Hx
  iexact Hy

/-- What @main leaves the claim: the three arguments at their launch contents, the two results at their values. -/
abbrev FIN (d : Dev nD) : sProp 𝕄 :=
  iprop((iLoc d ↦{fullShare} m (iLoc d)) ∗ (qtLoc d ↦{fullShare} m (qtLoc d)) ∗ (ttLoc d ↦{fullShare} m (ttLoc d))
    ∗ (qRes d ↦{fullShare} QR m d) ∗ (tRes d ↦{fullShare} TR m d))

/-- @main on device `d`'s TensorCore: the tables made flat, the call, the results reshaped; `tcEnd` handed back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hi, Hqt, Htt, Hq, Ht, Hqo, Hto, Hqr, Htr⟩, Hts, -⟩, -⟩
  iapply (wp_reshape m d main_arg1 main_v0 (by decide) rfl shapeCasts_S100000x4_S400000 _ _ (m (qtLoc d)) (m (qLoc d))) $$ [Hb Hqt Hq]
  · isplitl [Hb]; · iexact Hb
    isplitl [Hqt]; · iexact Hqt
    iexact Hq
  iintro ⟨Hb, Hqt, Hq⟩
  iapply (wp_reshape m d main_arg2 main_v1 (by decide) rfl shapeCasts_S100000x3_S300000 _ _ (m (ttLoc d)) (m (tLoc d))) $$ [Hb Htt Ht]
  · isplitl [Hb]; · iexact Hb
    isplitl [Htt]; · iexact Htt
    iexact Ht
  iintro ⟨Hb, Htt, Ht⟩
  iapply ((K (F := F)).wp_run (D (F := F)) 𝒱 (EH := EH) (P := P m) κ d 0) $$ [Hst Hi Hq Ht Hqo Hto Hb Hqt Htt Hqr Htr Hts]
  isplitr; · iexact Hctx
  isplitl [Hst]; · iexact Hst
  isplitl [Hi Hq Ht Hqo Hto]
  · rw [st0_eq]
    isplitl [Hi]; · iexact Hi
    isplitl [Hq]; · iexact Hq
    isplitl [Ht]; · iexact Ht
    isplitl [Hqo]; · iexact Hqo
    iexact Hto
  iintro ⟨Hst, Hdn⟩
  ihave Hdn' := (Entails.of_eq (dn0_eq m d)) $$ Hdn
  icases Hdn' with ⟨Hi, Hq, Ht, Hqo, Hto⟩
  iapply (wp_reshape m d main_v2_0 main_v3 (by decide) rfl shapeCasts_S16384_S4096x4 _ _ (QF m d) (m (qRes d))) $$ [Hb Hqo Hqr]
  · isplitl [Hb]; · iexact Hb
    isplitl [Hqo]; · iexact Hqo
    iexact Hqr
  iintro ⟨Hb, Hqo, Hqr⟩
  iapply (wp_reshape m d main_v2_1 main_v4 (by decide) rfl shapeCasts_S12288_S4096x3 _ _ (TF m d) (m (tRes d))) $$ [Hb Hto Htr]
  · isplitl [Hb]; · iexact Hb
    isplitl [Hto]; · iexact Hto
    iexact Htr
  iintro ⟨Hb, Hto, Htr⟩
  imodintro
  isplitl [Hst]; · iexact Hst
  isplitr [Hb Hts]
  · isplitl [Hi]; · iexact Hi
    isplitl [Hqt]; · iexact Hqt
    isplitl [Htt]; · iexact Htt
    isplitl [Hqr]; · iexact Hqr
    iexact Htr
  isplitl [Hb] <;> iassumption

/-- What the final memory holds of device `d`. -/
def fq (d : Dev nD) (s' : Phys nD τ sig (Elt F)) : Prop :=
  s'.mem.mem (iLoc d) = m (iLoc d) ∧ s'.mem.mem (qtLoc d) = m (qtLoc d) ∧ s'.mem.mem (ttLoc d) = m (ttLoc d)
    ∧ s'.mem.mem (qRes d) = QR m d ∧ s'.mem.mem (tRes d) = TR m d

set_option maxRecDepth 16384 in
theorem hfin (d : Dev nD) (s' : Phys nD τ sig (Elt F)) : iprop(FIN m d ∗ SI s') ⊢ (⌜fq m d s'⌝ : sProp 𝕄) := by
  have ag : ∀ {ℓ : Loc nD τ sig} (f : Buf (Elt F) ℓ), iprop(SI s' ∗ (ℓ ↦{fullShare} f)) ⊢ (iprop(⌜s'.mem.mem ℓ = f⌝ ∗ SI s') : sProp 𝕄) := fun {ℓ} f => by
    iintro ⟨HSI, H⟩
    ihave H := (persistent_entails_right (SI_pointsTo_agree (st := s') (ℓ := ℓ) (I := Finset.univ) (q := fullShare) (f := f))) $$ [HSI H]
    · isplitl [HSI] <;> iassumption
    icases H with ⟨%h1, HSI, -⟩
    isplitr
    · ipureintro; exact funext fun i => h1 i (Finset.mem_univ i)
    · iexact HSI
  iintro ⟨⟨Hi, Hqt, Htt, Hqr, Htr⟩, HSI⟩
  ihave H := (ag (m (iLoc d))) $$ [HSI Hi]; · isplitl [HSI] <;> iassumption
  icases H with ⟨%h1, HSI⟩
  ihave H := (ag (m (qtLoc d))) $$ [HSI Hqt]; · isplitl [HSI] <;> iassumption
  icases H with ⟨%h2, HSI⟩
  ihave H := (ag (m (ttLoc d))) $$ [HSI Htt]; · isplitl [HSI] <;> iassumption
  icases H with ⟨%h3, HSI⟩
  ihave H := (ag (ℓ := qRes d) (QR m d)) $$ [HSI Hqr]; · isplitl [HSI] <;> iassumption
  icases H with ⟨%h4, HSI⟩
  ihave H := (ag (ℓ := tRes d) (TR m d)) $$ [HSI Htr]; · isplitl [HSI] <;> iassumption
  icases H with ⟨%h5, HSI⟩
  ipureintro; exact ⟨h1, h2, h3, h4, h5⟩

/-! ## The program's run -/

/-- What a run ends with: the arguments unchanged, the results at their values, every counter zero. -/
def QC : PUnit × MemSt nD τ sig (Elt F) → Prop := fun r =>
  (∀ c : Dev nD, r.2.mem (iLoc c) = m (iLoc c) ∧ r.2.mem (qtLoc c) = m (qtLoc c) ∧ r.2.mem (ttLoc c) = m (ttLoc c)
    ∧ r.2.mem (qRes c) = QR m c ∧ r.2.mem (tRes c) = TR m c) ∧ r.2.sem = fun _ => 0

/-- Every run from a launch memory whose row numbers name rows ends so. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Gather

end
-- ==== Proof.Taken.lean ====
/-
  What the reference computes: for row numbers below 100000 its wrap-around of negative numbers changes nothing, its
  range check passes everywhere, and so each result is the gather: element `(r, j)` is element `j` of the row that row
  number `r` names.
-/
module

public import proofs.«01_k».proof.Proof.Gen.ReferenceIdeal.Run
public import Idealize.ShloMosaic.Lib.Routing.Ops
public import Idealize.ShloMosaic.Lib.ReduceAll

@[expose] public section

noncomputable section

namespace Cert.Taken

open Idealize.ShloMosaic Idealize.ShloMosaic.ValueIdx Idealize.ShloMosaic.Routing Cert.ReferenceIdeal Cert.ReferenceIdeal.Gen

variable {F : FTy → Type} [FloatOps F]

/-- Row number `r`. -/
def rowNo (I : S4096.Idx → BitVec 32) (hI : ∀ x, (I x).toNat < 100000) (r : Fin 4096) : Fin 100000 := ⟨(I (fun | 0 => r)).toNat, hI _⟩

/-- Rows of a table of 4 columns, and of one of 3, by row numbers. -/
def rows4 (I : S4096.Idx → BitVec 32) (hI : ∀ x, (I x).toNat < 100000) (X : S100000x4.Idx → F .f32) : S4096x4.Idx → F .f32 :=
  fun i => X (ix2 (rowNo I hI (i 0)) (i 1))
def rows3 (I : S4096.Idx → BitVec 32) (hI : ∀ x, (I x).toNat < 100000) (Y : S100000x3.Idx → F .f32) : S4096x3.Idx → F .f32 :=
  fun i => Y (ix2 (rowNo I hI (i 0)) (i 1))

theorem rows4_congr {I I' : S4096.Idx → BitVec 32} {X X' : S100000x4.Idx → F .f32} (e : I = I') (e' : X = X') (h) (h') :
    rows4 I h X = rows4 I' h' X' := by subst e; subst e'; rfl
theorem rows3_congr {I I' : S4096.Idx → BitVec 32} {Y Y' : S100000x3.Idx → F .f32} (e : I = I') (e' : Y = Y') (h) (h') :
    rows3 I h Y = rows3 I' h' Y' := by subst e; subst e'; rfl

theorem toInt_of_lt (v : BitVec 32) (h : v.toNat < 100000) : v.toInt = v.toNat := by
  rw [BitVec.toInt_eq_toNat_cond]; split <;> omega

variable (I : S4096.Idx → BitVec 32) (hI : ∀ x, (I x).toNat < 100000)

include hI in
/-- No row number is negative, so none is wrapped. -/
theorem wrap_eq : select (cmpi .slt I (broadcastInDim S4096 ![] bcast_S_S4096 (constantI S_ 32 0#32)))
    (addi I (broadcastInDim S4096 ![] bcast_S_S4096 (constantI S_ 32 100000#32))) I = I := by
  funext x
  refine if_neg fun h => ?_
  have h' := IntOp.cmpi_slt.mp h
  rw [toInt_of_lt _ (hI x)] at h'
  change ((I x).toNat : ℤ) < (0#32 : BitVec 32).toInt at h'
  rw [show (0#32 : BitVec 32).toInt = 0 by decide] at h'
  omega

include hI in
/-- The range check passes at every row number. -/
theorem check_eq : (Host.reduce IntOp.andi (andi (cmpi .sge (broadcastInDim S4096x1 ![0] bcast_S4096_S4096x1_0 I) (broadcastInDim S4096x1 ![] bcast_S_S4096x1 (constantI S_ 32 0#32)))
    (cmpi .sle (broadcastInDim S4096x1 ![0] bcast_S4096_S4096x1_0 I)
      (broadcastInDim S4096x1 ![0, 1] bcast_S1x1_S4096x1_0_1 (broadcastInDim S1x1 ![1] bcast_S1_S1x1_1 (constantI S1 32 99999#32)))))
    (constantI S_ 1 1#1) reducesTo_S4096x1_S4096_d1 h_S_ : IVec S4096 1) = fun _ => 1#1 := by
  funext j
  refine Host.reduce_andi_one _ _ _ _ j rfl fun i => IntOp.andi_eq_one.mpr ⟨IntOp.cmpi_sge.mpr ?_, IntOp.cmpi_sle.mpr ?_⟩
  · change (0#32 : BitVec 32).toInt ≤ (I _).toInt
    rw [toInt_of_lt _ (hI _), show (0#32 : BitVec 32).toInt = 0 by decide]
    omega
  · change (I _).toInt ≤ (99999#32 : BitVec 32).toInt
    rw [toInt_of_lt _ (hI _), show (99999#32 : BitVec 32).toInt = 99999 by decide]
    exact Int.le_of_lt_add_one (by exact_mod_cast hI _)

/-- A choice whose condition is 1 everywhere is its first branch. -/
theorem select_one {s : Shape} {α : Type} (dims : Fin S4096.rank → Fin s.rank) (h : S4096.BroadcastsInDim s dims) (a b : s.Idx → α) :
    select (broadcastInDim s dims h fun _ => 1#1) a b = a := funext fun i => (if_pos rfl : Scalar.select 1#1 (a i) (b i) = a i)

theorem column (r : Fin 4096) : broadcastInDim S4096x1 ![0] bcast_S4096_S4096x1_0 I (ix2 r (0 : Fin 1)) = BitVec.ofNat 32 (rowNo I hI r).val := by
  refine Eq.trans ?_ (BitVec.ofNat_toNat 32 (I fun | 0 => r)).symm
  rw [BitVec.setWidth_eq]
  refine congrArg I (funext fun a => ?_)
  match a with
  | 0 => rfl

theorem gather4 (X : S100000x4.Idx → F .f32) :
    Host.gather gather_S100000x4_S4096x1_S4096x4_1_0_n_n_0_1_14 X (broadcastInDim S4096x1 ![0] bcast_S4096_S4096x1_0 I) = rows4 I hI X := by
  funext i
  conv_lhs => rw [eq_ix2 i]
  exact gather_row _ rfl rfl rfl rfl rfl X _ (i 0) (i 1) (rowNo I hI (i 0)) (column I hI _) (by decide)
theorem gather3 (Y : S100000x3.Idx → F .f32) :
    Host.gather gather_S100000x3_S4096x1_S4096x3_1_0_n_n_0_1_13 Y (broadcastInDim S4096x1 ![0] bcast_S4096_S4096x1_0 I) = rows3 I hI Y := by
  funext i
  conv_lhs => rw [eq_ix2 i]
  exact gather_row _ rfl rfl rfl rfl rfl Y _ (i 0) (i 1) (rowNo I hI (i 0)) (column I hI _) (by decide)

open Idealize.SL.Sem

/-- The reference's run: with row numbers below 100000 its results are the rows they name; its arguments stay. -/
theorem run (m : (ℓ : Loc nD τ sig) → Buf (Elt F) ℓ) (ρ : Dev nD → PrngReg)
    (hI : ∀ (c : Dev nD) (x : S4096.Idx), (m ((c.tc : Thread nD τ).loc main_arg0) x : BitVec 32).toNat < 100000) :
    θ_run defs (onTc (τ := τ) (main (F := F))) ⟨m, fun _ => 0, ρ⟩ fun r => ∀ c : Dev nD,
      r.2.mem ((c.tc : Thread nD τ).loc main_v0) = rows4 (m ((c.tc : Thread nD τ).loc main_arg0)) (hI c) (m ((c.tc : Thread nD τ).loc main_arg1))
      ∧ r.2.mem ((c.tc : Thread nD τ).loc main_v1) = rows3 (m ((c.tc : Thread nD τ).loc main_arg0)) (hI c) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Cert.ReferenceIdeal.Value.run m ρ)
  obtain ⟨h0, h1, h2⟩ := h c
  refine ⟨h0.trans ?_, h1.trans ?_, h2⟩
  · rw [wrap_eq _ (hI c), check_eq _ (hI c), select_one, gather4 _ (hI c)]
  · rw [wrap_eq _ (hI c), check_eq _ (hI c), select_one, gather3 _ (hI c)]

end Cert.Taken

end
-- ==== Proof.IdealRows.lean ====
/-
  The kernel's results are the rows its row numbers name: the flat results `QO`, `TO` of the flat tables, read back as
  arrays of 4 and 3 columns.
-/
module

public import proofs.«01_k».proof.Proof.IdealLaunch
public import proofs.«01_k».proof.Proof.Taken

@[expose] public section

noncomputable section

namespace Cert.KernelIdeal.Gather

open Idealize.ShloMosaic Idealize.ShloMosaic.ValueIdx Cert.KernelIdeal Cert.KernelIdeal.Gen

variable {F : FTy → Type} [FloatOps F] (m : (ℓ : Loc nD τ sig) → Buf (Elt F) ℓ)

/-- An element of the first flat table is one of the table. -/
theorem XF_apply (d : Dev nD) (b : Fin 100000) (j : Fin 4) : XF m d (i400000 (b.val * 4 + j.val)) = (m (qtLoc d) : S100000x4.Idx → Elt F .f32) (ix2 b j) := by
  unfold XF shapeCast
  refine congrArg _ (Shape.reshapeEquiv_eq_of_rowMajor _ ?_)
  refine (Shape.rowMajor_val_two (ix2 b j)).trans (Eq.trans ?_ (Shape.rowMajor_val_one _).symm)
  have := b.isLt; have := j.isLt
  change b.val * 4 + j.val = (b.val * 4 + j.val) % 400000
  omega
theorem YF_apply (d : Dev nD) (b : Fin 100000) (j : Fin 3) : YF m d (i300000 (b.val * 3 + j.val)) = (m (ttLoc d) : S100000x3.Idx → Elt F .f32) (ix2 b j) := by
  unfold YF shapeCast
  refine congrArg _ (Shape.reshapeEquiv_eq_of_rowMajor _ ?_)
  refine (Shape.rowMajor_val_two (ix2 b j)).trans (Eq.trans ?_ (Shape.rowMajor_val_one _).symm)
  have := b.isLt; have := j.isLt
  change b.val * 3 + j.val = (b.val * 3 + j.val) % 300000
  omega

theorem i4096_eq (r : Fin 4096) : i4096 r.val = fun | 0 => r := funext fun a => match a with
  | 0 => Fin.ext (Nat.mod_eq_of_lt r.isLt)

/-- The first result holds the rows of the first table. -/
theorem QR_eq (hpre : PreOK m) (d : Dev nD) : QR m d = Cert.Taken.rows4 (F := F) (m (iLoc d)) (hpre d) (m (qtLoc d)) := by
  funext i
  have h0 : (i 0).val < 4096 := (i 0).isLt
  have h1 : (i 1).val < 4 := (i 1).isLt
  have hx : ((Shape.reshapeEquiv (shapeCasts_S16384_S4096x4 : S16384.ShapeCasts S4096x4) i) 0).val = (i 0).val * 4 + (i 1).val := by
    have h := Shape.rowMajor_reshapeEquiv (shapeCasts_S16384_S4096x4 : S16384.ShapeCasts S4096x4) i
    rw [Shape.rowMajor_val_two, Shape.rowMajor_val_one] at h
    exact h
  change QO (m (iLoc d)) (XF m d) (Shape.reshapeEquiv shapeCasts_S16384_S4096x4 i) = _
  unfold QO
  rw [hx, show ((i 0).val * 4 + (i 1).val) / 4 = (i 0).val by omega, show ((i 0).val * 4 + (i 1).val) % 4 = (i 1).val by omega]
  rw [show i4096 (i 0).val = _ from i4096_eq (i 0)]
  exact XF_apply m d (Cert.Taken.rowNo (m (iLoc d)) (hpre d) (i 0)) (i 1)
/-- The second result holds the rows of the second table. -/
theorem TR_eq (hpre : PreOK m) (d : Dev nD) : TR m d = Cert.Taken.rows3 (F := F) (m (iLoc d)) (hpre d) (m (ttLoc d)) := by
  funext i
  have h0 : (i 0).val < 4096 := (i 0).isLt
  have h1 : (i 1).val < 3 := (i 1).isLt
  have hx : ((Shape.reshapeEquiv (shapeCasts_S12288_S4096x3 : S12288.ShapeCasts S4096x3) i) 0).val = (i 0).val * 3 + (i 1).val := by
    have h := Shape.rowMajor_reshapeEquiv (shapeCasts_S12288_S4096x3 : S12288.ShapeCasts S4096x3) i
    rw [Shape.rowMajor_val_two, Shape.rowMajor_val_one] at h
    exact h
  change TO (m (iLoc d)) (YF m d) (Shape.reshapeEquiv shapeCasts_S12288_S4096x3 i) = _
  unfold TO
  rw [hx, show ((i 0).val * 3 + (i 1).val) / 3 = (i 0).val by omega, show ((i 0).val * 3 + (i 1).val) % 3 = (i 1).val by omega]
  rw [show i4096 (i 0).val = _ from i4096_eq (i 0)]
  exact YF_apply m d (Cert.Taken.rowNo (m (iLoc d)) (hpre d) (i 0)) (i 1)

end Cert.KernelIdeal.Gather

end
-- ==== Proof.InTable.lean ====
/-
  The precondition read back: where `jnp.all((idx >= 0) & (idx < 100000))` is 1, every index, read as a natural number,
  is below 100000.
-/
module

public import proofs.«01_k».proof.Proof.Gen.Pre_in_table
public import Idealize.ShloMosaic.Lib.ReduceAll

@[expose] public section

noncomputable section

namespace Cert.InTable

open Idealize.ShloMosaic Cert.Pre_in_table Cert.Pre_in_table.Gen

instance : Subsingleton S_.Idx := ⟨fun a b => funext fun i => i.elim0⟩

/-- A word that passes both comparisons is, unsigned, below 100000. -/
theorem word_lt (v : BitVec 32) (e : IntOp.andi (IntOp.cmpi .sge v 0#32) (IntOp.cmpi .slt v 100000#32) = 1#1) : v.toNat < 100000 := by
  obtain ⟨h0, h1⟩ := IntOp.andi_eq_one.mp e
  rw [IntOp.cmpi_sge] at h0
  rw [IntOp.cmpi_slt] at h1
  rw [show (0#32 : BitVec 32).toInt = 0 by decide] at h0
  rw [show (100000#32 : BitVec 32).toInt = 100000 by decide] at h1
  rw [BitVec.toInt_eq_toNat_cond] at h0 h1
  split at h0 <;> omega

/-- The precondition bounds every index. -/
theorem lt_of_pre {F : FTy → Type} [FloatOps F] (I : IVec S4096 32) (X : FVec F S100000x4 .f32) (Y : FVec F S100000x3 .f32)
    (h : Cert.Pre_in_table.fn I X Y = fun _ => 1#1) (x : S4096.Idx) : (I x).toNat < 100000 :=
  word_lt (I x) (Host.reduce_andi_all _ _ _ _ (fun a => a.elim0) (congrFun h _) x)

end Cert.InTable

end
-- ==== Proof.lean ====
/-
  The certificate: the frames of the kernel, of its idealization and of the reference, and the equality of the
  idealization's results with the reference's. Each frame of the kernel is its run with the results dropped; the equality
  is the run of the idealization beside the run of the reference, both ending with the rows that the row numbers name.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_table
public import proofs.«01_k».proof.Proof.BitsLaunch
public import proofs.«01_k».proof.Proof.IdealRows
public import proofs.«01_k».proof.Proof.InTable
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The precondition makes every row number of the kernel name a row. -/
theorem kernel_ok (m : (ℓ : Loc Cert.Kernel.nD Cert.Kernel.τ Cert.Kernel.sig) → Buf (Elt Bits) ℓ)
    (h : Cert.Pre_Kernel (hPre_in_table := Cert.Pre_in_table.Gen.facts) m) : Cert.Kernel.Gather.PreOK m := fun c => Cert.InTable.lt_of_pre _ _ _ (h c)
theorem ideal_ok (m : (ℓ : Loc Cert.KernelIdeal.nD Cert.KernelIdeal.τ Cert.KernelIdeal.sig) → Buf (Elt Ideal) ℓ)
    (h : Cert.Pre_KernelIdeal (hPre_in_table := Cert.Pre_in_table.Gen.facts) m) : Cert.KernelIdeal.Gather.PreOK m := fun c => Cert.InTable.lt_of_pre _ _ _ (h c)

theorem frame_kernel : Cert.quiescent_Kernel (hKernel := Cert.Kernel.Gen.facts) (hPre_in_table := Cert.Pre_in_table.Gen.facts) := fun m g h =>
  (θ_run _ _ _).mono (fun _ e => ⟨fun c => ⟨(e.1 c).1, (e.1 c).2.1, (e.1 c).2.2.1⟩, e.2⟩) (Cert.Kernel.Gather.run_main m g (kernel_ok m h))

theorem frame_ideal : Cert.quiescent_KernelIdeal (hKernelIdeal := Cert.KernelIdeal.Gen.facts) (hPre_in_table := Cert.Pre_in_table.Gen.facts) := fun m g h =>
  (θ_run _ _ _).mono (fun _ e => ⟨fun c => ⟨(e.1 c).1, (e.1 c).2.1, (e.1 c).2.2.1⟩, e.2⟩) (Cert.KernelIdeal.Gather.run_main m g (ideal_ok m h))

/-- The reference's frame needs no bound on the row numbers. -/
theorem frame_reference : Cert.quiescent_ReferenceIdeal (hReferenceIdeal := Cert.ReferenceIdeal.Gen.facts) := fun m g _ =>
  (θ_run _ _ _).mono (fun _ e => ⟨fun c => (e c).2.2, sem_eq_zero_of_no_sems (by decide) _⟩) (Cert.ReferenceIdeal.Value.run m g)

/-- The kernel over the extended reals and the reference end with the same two arrays: the rows that the row numbers name. -/
theorem same_rows : Cert.algebraic_KernelIdeal_ReferenceIdeal (hKernelIdeal := Cert.KernelIdeal.Gen.facts) (hReferenceIdeal := Cert.ReferenceIdeal.Gen.facts)
    (hPre_in_table := Cert.Pre_in_table.Gen.facts) := fun m g m' g' h hm => by
  have hpre := ideal_ok m h
  refine ⟨fun c => Cert.KernelIdeal.Gather.QR m c, fun c => Cert.KernelIdeal.Gather.TR m c, ?_, ?_⟩
  · exact (θ_run _ _ _).mono (fun _ e c => ⟨(e.1 c).2.2.2.1, (e.1 c).2.2.2.2, (e.1 c).1, (e.1 c).2.1, (e.1 c).2.2.1⟩)
      (Cert.KernelIdeal.Gather.run_main m g hpre)
  · have hI : ∀ (c : Dev Cert.ReferenceIdeal.nD) (x : Cert.ReferenceIdeal.S4096.Idx),
        (m' ((c.tc : Thread Cert.ReferenceIdeal.nD Cert.ReferenceIdeal.τ).loc Cert.ReferenceIdeal.main_arg0) x : BitVec 32).toNat < 100000 := fun c x => by
      rw [(hm c).1]; exact hpre c x
    refine (θ_run _ _ _).mono (fun r e c => ?_) (Cert.Taken.run m' g' hI)
    obtain ⟨e0, e1, e2⟩ := e c
    refine ⟨e0.trans (Eq.trans ?_ (Cert.KernelIdeal.Gather.QR_eq m hpre c).symm), e1.trans (Eq.trans ?_ (Cert.KernelIdeal.Gather.TR_eq m hpre c).symm), e2⟩
    · exact Cert.Taken.rows4_congr (hm c).1 (hm c).2.1 _ _
    · exact Cert.Taken.rows3_congr (hm c).1 (hm c).2.2 _ _

theorem claim : Cert.Claim := ⟨Cert.Kernel.Gen.facts, Cert.KernelIdeal.Gen.facts, Cert.ReferenceIdeal.Gen.facts, Cert.Pre_in_table.Gen.facts,
  frame_kernel, frame_ideal, frame_reference, fun m g _ => frame_reference m g trivial, trivial, same_rows⟩

end Cert.Proof

end
